-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_three_clear_neighbours [hPre_three_clear_neighbours : Cert.Pre_three_clear_neighbours.Facts] (m : (ℓ : Loc Cert.KernelIdeal.nD Cert.KernelIdeal.τ Cert.KernelIdeal.sig) → Buf (Elt Ideal) ℓ) : Prop :=
  ∀ c : Dev Cert.KernelIdeal.nD,
    (Cert.Pre_three_clear_neighbours.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_three_clear_neighbours [hPre_three_clear_neighbours : Cert.Pre_three_clear_neighbours.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_three_clear_neighbours.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_KernelIdeal_pre_three_clear_neighbours [hKernelIdeal : Cert.KernelIdeal.Facts] [hPre_three_clear_neighbours : Cert.Pre_three_clear_neighbours.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_three_clear_neighbours m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def quiescent_ReferenceIdeal_pre_three_clear_neighbours [hReferenceIdeal : Cert.ReferenceIdeal.Facts] [hPre_three_clear_neighbours : Cert.Pre_three_clear_neighbours.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_three_clear_neighbours m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def preserves_Kernel_KernelIdeal : Prop :=
  True

def algebraic_KernelIdeal_ReferenceIdeal_pre_three_clear_neighbours [hKernelIdeal : Cert.KernelIdeal.Facts] [hReferenceIdeal : Cert.ReferenceIdeal.Facts] [hPre_three_clear_neighbours : Cert.Pre_three_clear_neighbours.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_three_clear_neighbours m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v32)) (v1 : (c : Dev Cert.KernelIdeal.nD) → Buf (Elt Ideal) ((c.tc : Thread Cert.KernelIdeal.nD Cert.KernelIdeal.τ).loc Cert.KernelIdeal.main_arg4)) (v2 : (c : Dev Cert.KernelIdeal.nD) → Buf (Elt Ideal) ((c.tc : Thread Cert.KernelIdeal.nD Cert.KernelIdeal.τ).loc Cert.KernelIdeal.main_arg5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v32) = v0 c
          ∧ r.2.mem ((c.tc : Thread Cert.KernelIdeal.nD Cert.KernelIdeal.τ).loc Cert.KernelIdeal.main_arg4) = v1 c
          ∧ r.2.mem ((c.tc : Thread Cert.KernelIdeal.nD Cert.KernelIdeal.τ).loc Cert.KernelIdeal.main_arg5) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v37) = v0 c
          ∧ r.2.mem ((c.tc : Thread Cert.ReferenceIdeal.nD Cert.ReferenceIdeal.τ).loc Cert.ReferenceIdeal.main_arg4) = v1 c
          ∧ r.2.mem ((c.tc : Thread Cert.ReferenceIdeal.nD Cert.ReferenceIdeal.τ).loc Cert.ReferenceIdeal.main_arg5) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_three_clear_neighbours : Cert.Pre_three_clear_neighbours.Facts),
    quiescent_Kernel (hKernel := hKernel)
    ∧ quiescent_KernelIdeal (hKernelIdeal := hKernelIdeal)
    ∧ quiescent_KernelIdeal_pre_three_clear_neighbours (hKernelIdeal := hKernelIdeal) (hPre_three_clear_neighbours := hPre_three_clear_neighbours)
    ∧ quiescent_ReferenceIdeal (hReferenceIdeal := hReferenceIdeal)
    ∧ quiescent_ReferenceIdeal_pre_three_clear_neighbours (hReferenceIdeal := hReferenceIdeal) (hPre_three_clear_neighbours := hPre_three_clear_neighbours)
    ∧ preserves_Kernel_KernelIdeal
    ∧ algebraic_KernelIdeal_ReferenceIdeal_pre_three_clear_neighbours (hKernelIdeal := hKernelIdeal) (hReferenceIdeal := hReferenceIdeal) (hPre_three_clear_neighbours := hPre_three_clear_neighbours)
-- ==== Pre_three_clear_neighbours.lean ====
abbrev S4096x512 : Shape := ⟨2, ![4096, 512]⟩
abbrev S4096x3 : Shape := ⟨2, ![4096, 3]⟩
abbrev S4096 : Shape := ⟨1, ![4096]⟩
abbrev S8192x128 : Shape := ⟨2, ![8192, 128]⟩
abbrev S8192x3 : Shape := ⟨2, ![8192, 3]⟩
abbrev S8192 : Shape := ⟨1, ![8192]⟩
abbrev S640x512 : Shape := ⟨2, ![640, 512]⟩
abbrev S512 : Shape := ⟨1, ![512]⟩
abbrev S512x256 : Shape := ⟨2, ![512, 256]⟩
abbrev S256 : Shape := ⟨1, ![256]⟩
abbrev S8192x1x3 : Shape := ⟨3, ![8192, 1, 3]⟩
abbrev S1x4096x3 : Shape := ⟨3, ![1, 4096, 3]⟩
abbrev S8192x4096x3 : Shape := ⟨3, ![8192, 4096, 3]⟩
abbrev S_ : Shape := ⟨0, ![]⟩
abbrev S8192x4096 : Shape := ⟨2, ![8192, 4096]⟩
abbrev S8192x1 : Shape := ⟨2, ![8192, 1]⟩
abbrev S1x4096 : Shape := ⟨2, ![1, 4096]⟩
abbrev S8192x4 : Shape := ⟨2, ![8192, 4]⟩
abbrev S4095 : Shape := ⟨1, ![4095]⟩
abbrev S8191 : Shape := ⟨1, ![8191]⟩

class Facts : Prop where
  bcast_S8192x3_S8192x1x3_0_2 : S8192x3.BroadcastsInDim S8192x1x3 (![0, 2] : Fin 2 → Fin S8192x1x3.rank)
  bcast_S4096x3_S1x4096x3_1_2 : S4096x3.BroadcastsInDim S1x4096x3 (![1, 2] : Fin 2 → Fin S1x4096x3.rank)
  bcast_S8192x1x3_S8192x4096x3_0_1_2 : S8192x1x3.BroadcastsInDim S8192x4096x3 (![0, 1, 2] : Fin 3 → Fin S8192x4096x3.rank)
  bcast_S1x4096x3_S8192x4096x3_0_1_2 : S1x4096x3.BroadcastsInDim S8192x4096x3 (![0, 1, 2] : Fin 3 → Fin S8192x4096x3.rank)
  reducesTo_S8192x4096x3_S8192x4096_d2 : S8192x4096x3.ReducesTo [2] S8192x4096
  h_S_ : 0 < S_.numel
  bcast_S8192_S8192x1_0 : S8192.BroadcastsInDim S8192x1 (![0] : Fin 1 → Fin S8192x1.rank)
  bcast_S4096_S1x4096_1 : S4096.BroadcastsInDim S1x4096 (![1] : Fin 1 → Fin S1x4096.rank)
  bcast_S8192x1_S8192x4096_0_1 : S8192x1.BroadcastsInDim S8192x4096 (![0, 1] : Fin 2 → Fin S8192x4096.rank)
  bcast_S1x4096_S8192x4096_0_1 : S1x4096.BroadcastsInDim S8192x4096 (![0, 1] : Fin 2 → Fin S8192x4096.rank)
  bcast_S_S8192x4096 : S_.BroadcastsInDim S8192x4096 (![] : Fin 0 → Fin S8192x4096.rank)
  sliceFits_S8192x4096_S8192x4 : S8192x4096.Slices (fun _ => 0) S8192x4
  slices_S8192x4_S8192x1_0_2 : S8192x4.Slices ![0, 2] S8192x1
  shapeCasts_S8192x1_S8192 : S8192x1.ShapeCasts S8192
  slices_S8192x4_S8192x1_0_3 : S8192x4.Slices ![0, 3] S8192x1
  slices_S4096_S4095_0 : S4096.Slices ![0] S4095
  slices_S4096_S4095_1 : S4096.Slices ![1] S4095
  reducesTo_S4095_S_d0 : S4095.ReducesTo [0] S_
  slices_S8192_S8191_0 : S8192.Slices ![0] S8191
  slices_S8192_S8191_1 : S8192.Slices ![1] S8191
  reducesTo_S8191_S_d0 : S8191.ReducesTo [0] S_
  bcast_S_S8192 : S_.BroadcastsInDim S8192 (![] : Fin 0 → Fin S8192.rank)
  reducesTo_S8192_S_d0 : S8192.ReducesTo [0] S_

variable [Facts]

def fn_where {F : FTy → Type} [FloatOps F] (arg0 : IVec S8192x4096 1) (arg1 : FVec F S_ .f32) (arg2 : FVec F S8192x4096 .f32) : FVec F S8192x4096 .f32 :=
  let v0 : FVec F S8192x4096 .f32 := broadcastInDim S8192x4096 ![] bcast_S_S8192x4096 arg1
  let v1 : FVec F S8192x4096 .f32 := select arg0 v0 arg2
  v1

def fn_part1 {F : FTy → Type} [FloatOps F] (main_arg2 : IVec S4096 32) (main_arg5 : IVec S8192 32) (main_v16 : FVec F S8192 .f32) (main_v19 : FVec F S8192 .f32) : IVec S_ 1 :=
  let main_v20 : IVec S4095 32 := (extractStridedSlice S4095 ![0] · slices_S4096_S4095_0) main_arg2
  let main_v21 : IVec S4095 32 := (extractStridedSlice S4095 ![1] · slices_S4096_S4095_1) main_arg2
  let main_v22 : IVec S4095 1 := cmpi .sle main_v20 main_v21
  let main_c : IVec S_ 1 := constantI S_ 1 1#1
  let main_v23 : IVec S_ 1 := (fun x v => Host.reduce IntOp.andi x v reducesTo_S4095_S_d0 h_S_) main_v22 main_c
  let main_v24 : IVec S8191 32 := (extractStridedSlice S8191 ![0] · slices_S8192_S8191_0) main_arg5
  let main_v25 : IVec S8191 32 := (extractStridedSlice S8191 ![1] · slices_S8192_S8191_1) main_arg5
  let main_v26 : IVec S8191 1 := cmpi .sle main_v24 main_v25
  let main_c_1 : IVec S_ 1 := constantI S_ 1 1#1
  let main_v27 : IVec S_ 1 := (fun x v => Host.reduce IntOp.andi x v reducesTo_S8191_S_d0 h_S_) main_v26 main_c_1
  let main_v28 : IVec S_ 1 := andi main_v23 main_v27
  let main_cst_2 : FVec F S_ .f32 := constant S_ .f32 0x501502F9#32
  let main_v29 : FVec F S8192 .f32 := broadcastInDim S8192 ![] bcast_S_S8192 main_cst_2
  let main_v30 : IVec S8192 1 := cmpf .olt main_v16 main_v29
  let main_c_3 : IVec S_ 1 := constantI S_ 1 1#1
  let main_v31 : IVec S_ 1 := (fun x v => Host.reduce IntOp.andi x v reducesTo_S8192_S_d0 h_S_) main_v30 main_c_3
  let main_v32 : IVec S_ 1 := andi main_v28 main_v31
  let main_v33 : IVec S8192 1 := cmpf .olt main_v16 main_v19
  let main_c_4 : IVec S_ 1 := constantI S_ 1 1#1
  let main_v34 : IVec S_ 1 := (fun x v => Host.reduce IntOp.andi x v reducesTo_S8192_S_d0 h_S_) main_v33 main_c_4
  let main_v35 : IVec S_ 1 := andi main_v32 main_v34
  main_v35

def fn {F : FTy → Type} [FloatOps F] (main_arg0 : FVec F S4096x512 .f32) (main_arg1 : FVec F S4096x3 .f32) (main_arg2 : IVec S4096 32) (main_arg3 : FVec F S8192x128 .f32) (main_arg4 : FVec F S8192x3 .f32) (main_arg5 : IVec S8192 32) (main_arg6 : FVec F S640x512 .f32) (main_arg7 : FVec F S512 .f32) (main_arg8 : FVec F S512x256 .f32) (main_arg9 : FVec F S256 .f32) : IVec S_ 1 :=
  let main_v0 : FVec F S8192x1x3 .f32 := broadcastInDim S8192x1x3 ![0, 2] bcast_S8192x3_S8192x1x3_0_2 main_arg4
  let main_v1 : FVec F S1x4096x3 .f32 := broadcastInDim S1x4096x3 ![1, 2] bcast_S4096x3_S1x4096x3_1_2 main_arg1
  let main_v2 : FVec F S8192x4096x3 .f32 := broadcastInDim S8192x4096x3 ![0, 1, 2] bcast_S8192x1x3_S8192x4096x3_0_1_2 main_v0
  let main_v3 : FVec F S8192x4096x3 .f32 := broadcastInDim S8192x4096x3 ![0, 1, 2] bcast_S1x4096x3_S8192x4096x3_0_1_2 main_v1
  let main_v4 : FVec F S8192x4096x3 .f32 := subf main_v2 main_v3
  let main_v5 : FVec F S8192x4096x3 .f32 := mulf main_v4 main_v4
  let main_cst : FVec F S_ .f32 := constant S_ .f32 0x00000000#32
  let main_v6 : FVec F S8192x4096 .f32 := (fun x v => Host.reduceAdd x v reducesTo_S8192x4096x3_S8192x4096_d2 h_S_) main_v5 main_cst
  let main_v7 : IVec S8192x1 32 := broadcastInDim S8192x1 ![0] bcast_S8192_S8192x1_0 main_arg5
  let main_v8 : IVec S1x4096 32 := broadcastInDim S1x4096 ![1] bcast_S4096_S1x4096_1 main_arg2
  let main_v9 : IVec S8192x4096 32 := broadcastInDim S8192x4096 ![0, 1] bcast_S8192x1_S8192x4096_0_1 main_v7
  let main_v10 : IVec S8192x4096 32 := broadcastInDim S8192x4096 ![0, 1] bcast_S1x4096_S8192x4096_0_1 main_v8
  let main_v11 : IVec S8192x4096 1 := cmpi .ne main_v9 main_v10
  let main_cst_0 : FVec F S_ .f32 := constant S_ .f32 0x501502F9#32
  let main_v12 : FVec F S8192x4096 .f32 := fn_where (F := F) main_v11 main_cst_0 main_v6
  let main_v13 : FVec F S8192x4096 .f32 := Host.negf main_v12
  let main_values : FVec F S8192x4 .f32 := (fun x => (Host.topK S8192x4 1 (FloatOps.cmpfTotal .gt) x sliceFits_S8192x4096_S8192x4).1) main_v13
  let main_indices : IVec S8192x4 32 := (fun x => (Host.topK S8192x4 1 (FloatOps.cmpfTotal .gt) x sliceFits_S8192x4096_S8192x4).2) main_v13
  let main_v14 : FVec F S8192x1 .f32 := (extractStridedSlice S8192x1 ![0, 2] · slices_S8192x4_S8192x1_0_2) main_values
  let main_v15 : FVec F S8192 .f32 := shapeCast S8192 main_v14 shapeCasts_S8192x1_S8192
  let main_v16 : FVec F S8192 .f32 := Host.negf main_v15
  let main_v17 : FVec F S8192x1 .f32 := (extractStridedSlice S8192x1 ![0, 3] · slices_S8192x4_S8192x1_0_3) main_values
  let main_v18 : FVec F S8192 .f32 := shapeCast S8192 main_v17 shapeCasts_S8192x1_S8192
  let main_v19 : FVec F S8192 .f32 := Host.negf main_v18
  fn_part1 (F := F) main_arg2 main_arg5 main_v16 main_v19
-- ==== Kernel.lean ====
abbrev S4096x512 : Shape := ⟨2, ![4096, 512]⟩
abbrev S4096x3 : Shape := ⟨2, ![4096, 3]⟩
abbrev S4096 : Shape := ⟨1, ![4096]⟩
abbrev S8192x128 : Shape := ⟨2, ![8192, 128]⟩
abbrev S8192x3 : Shape := ⟨2, ![8192, 3]⟩
abbrev S8192 : Shape := ⟨1, ![8192]⟩
abbrev S640x512 : Shape := ⟨2, ![640, 512]⟩
abbrev S512 : Shape := ⟨1, ![512]⟩
abbrev S512x256 : Shape := ⟨2, ![512, 256]⟩
abbrev S256 : Shape := ⟨1, ![256]⟩
abbrev S16 : Shape := ⟨1, ![16]⟩
abbrev S1x4096 : Shape := ⟨2, ![1, 4096]⟩
abbrev S16x1 : Shape := ⟨2, ![16, 1]⟩
abbrev S16x4096 : Shape := ⟨2, ![16, 4096]⟩
abbrev S_ : Shape := ⟨0, ![]⟩
abbrev S3x8192 : Shape := ⟨2, ![3, 8192]⟩
abbrev S4096x1 : Shape := ⟨2, ![4096, 1]⟩
abbrev S16x1x512 : Shape := ⟨3, ![16, 1, 512]⟩
abbrev S1x512 : Shape := ⟨2, ![1, 512]⟩
abbrev S1x256 : Shape := ⟨2, ![1, 256]⟩
abbrev S8192x256 : Shape := ⟨2, ![8192, 256]⟩
abbrev S3x512 : Shape := ⟨2, ![3, 512]⟩
abbrev S512x128 : Shape := ⟨2, ![512, 128]⟩
abbrev S1x1x512 : Shape := ⟨3, ![1, 1, 512]⟩
abbrev S1 : Shape := ⟨1, ![1]⟩
abbrev S576x512 : Shape := ⟨2, ![576, 512]⟩
abbrev S512x576 : Shape := ⟨2, ![512, 576]⟩
abbrev S576x1 : Shape := ⟨2, ![576, 1]⟩
abbrev S576 : Shape := ⟨1, ![576]⟩
abbrev S512x512 : Shape := ⟨2, ![512, 512]⟩
abbrev S512x1 : Shape := ⟨2, ![512, 1]⟩
abbrev S128x512 : Shape := ⟨2, ![128, 512]⟩

abbrev nBuf : Space → Nat
  | .hbm => 81
  | .vmem => 15
  | .smem => 2
  | _ => 0

abbrev bufTy : (tb : Table) → Fin (tcTables nBuf tb) → BufTy
  | .hbm, ⟨0, _⟩ => ⟨S4096x512, .f32⟩
  | .hbm, ⟨1, _⟩ => ⟨S4096x3, .f32⟩
  | .hbm, ⟨2, _⟩ => ⟨S4096, .i32⟩
  | .hbm, ⟨3, _⟩ => ⟨S8192x128, .f32⟩
  | .hbm, ⟨4, _⟩ => ⟨S8192x3, .f32⟩
  | .hbm, ⟨5, _⟩ => ⟨S8192, .i32⟩
  | .hbm, ⟨6, _⟩ => ⟨S640x512, .f32⟩
  | .hbm, ⟨7, _⟩ => ⟨S512, .f32⟩
  | .hbm, ⟨8, _⟩ => ⟨S512x256, .f32⟩
  | .hbm, ⟨9, _⟩ => ⟨S256, .f32⟩
  | .hbm, ⟨10, _⟩ => ⟨S16, .i32⟩
  | .hbm, ⟨11, _⟩ => ⟨S16, .i32⟩
  | .hbm, ⟨12, _⟩ => ⟨S1x4096, .i32⟩
  | .hbm, ⟨13, _⟩ => ⟨S16x1, .i32⟩
  | .hbm, ⟨14, _⟩ => ⟨S16x4096, .i32⟩
  | .hbm, ⟨15, _⟩ => ⟨S16x4096, .i32⟩
  | .hbm, ⟨16, _⟩ => ⟨S16x4096, .i1⟩
  | .hbm, ⟨17, _⟩ => ⟨S16x4096, .i32⟩
  | .hbm, ⟨18, _⟩ => ⟨S_, .i32⟩
  | .hbm, ⟨19, _⟩ => ⟨S16, .i32⟩
  | .hbm, ⟨20, _⟩ => ⟨S1x4096, .i32⟩
  | .hbm, ⟨21, _⟩ => ⟨S16x1, .i32⟩
  | .hbm, ⟨22, _⟩ => ⟨S16x4096, .i32⟩
  | .hbm, ⟨23, _⟩ => ⟨S16x4096, .i32⟩
  | .hbm, ⟨24, _⟩ => ⟨S16x4096, .i1⟩
  | .hbm, ⟨25, _⟩ => ⟨S16x4096, .i32⟩
  | .hbm, ⟨26, _⟩ => ⟨S_, .i32⟩
  | .hbm, ⟨27, _⟩ => ⟨S16, .i32⟩
  | .hbm, ⟨28, _⟩ => ⟨S_, .i32⟩
  | .hbm, ⟨29, _⟩ => ⟨S_, .i32⟩
  | .hbm, ⟨30, _⟩ => ⟨S16, .i32⟩
  | .hbm, ⟨31, _⟩ => ⟨S16, .i32⟩
  | .hbm, ⟨32, _⟩ => ⟨S16, .i32⟩
  | .hbm, ⟨33, _⟩ => ⟨S_, .i32⟩
  | .hbm, ⟨34, _⟩ => ⟨S16, .i32⟩
  | .hbm, ⟨35, _⟩ => ⟨S16, .i1⟩
  | .hbm, ⟨36, _⟩ => ⟨S16, .i32⟩
  | .hbm, ⟨37, _⟩ => ⟨S16, .i32⟩
  | .hbm, ⟨38, _⟩ => ⟨S_, .i32⟩
  | .hbm, ⟨39, _⟩ => ⟨S16, .i32⟩
  | .hbm, ⟨40, _⟩ => ⟨S16, .i1⟩
  | .hbm, ⟨41, _⟩ => ⟨S16, .i1⟩
  | .hbm, ⟨42, _⟩ => ⟨S_, .i32⟩
  | .hbm, ⟨43, _⟩ => ⟨S16, .i32⟩
  | .hbm, ⟨44, _⟩ => ⟨S16, .i32⟩
  | .hbm, ⟨45, _⟩ => ⟨S16, .i32⟩
  | .hbm, ⟨46, _⟩ => ⟨S_, .i32⟩
  | .hbm, ⟨47, _⟩ => ⟨S16, .i32⟩
  | .hbm, ⟨48, _⟩ => ⟨S16, .i32⟩
  | .hbm, ⟨49, _⟩ => ⟨S_, .i32⟩
  | .hbm, ⟨50, _⟩ => ⟨S16, .i32⟩
  | .hbm, ⟨51, _⟩ => ⟨S16, .i32⟩
  | .hbm, ⟨52, _⟩ => ⟨S_, .i32⟩
  | .hbm, ⟨53, _⟩ => ⟨S16, .i32⟩
  | .hbm, ⟨54, _⟩ => ⟨S16, .i32⟩
  | .hbm, ⟨55, _⟩ => ⟨S_, .i32⟩
  | .hbm, ⟨56, _⟩ => ⟨S_, .i32⟩
  | .hbm, ⟨57, _⟩ => ⟨S16, .i32⟩
  | .hbm, ⟨58, _⟩ => ⟨S16, .i32⟩
  | .hbm, ⟨59, _⟩ => ⟨S16, .i32⟩
  | .hbm, ⟨60, _⟩ => ⟨S_, .i32⟩
  | .hbm, ⟨61, _⟩ => ⟨S16, .i32⟩
  | .hbm, ⟨62, _⟩ => ⟨S16, .i1⟩
  | .hbm, ⟨63, _⟩ => ⟨S16, .i32⟩
  | .hbm, ⟨64, _⟩ => ⟨S16, .i32⟩
  | .hbm, ⟨65, _⟩ => ⟨S_, .i32⟩
  | .hbm, ⟨66, _⟩ => ⟨S16, .i32⟩
  | .hbm, ⟨67, _⟩ => ⟨S16, .i1⟩
  | .hbm, ⟨68, _⟩ => ⟨S16, .i1⟩
  | .hbm, ⟨69, _⟩ => ⟨S_, .i32⟩
  | .hbm, ⟨70, _⟩ => ⟨S16, .i32⟩
  | .hbm, ⟨71, _⟩ => ⟨S16, .i32⟩
  | .hbm, ⟨72, _⟩ => ⟨S16, .i32⟩
  | .hbm, ⟨73, _⟩ => ⟨S_, .i32⟩
  | .hbm, ⟨74, _⟩ => ⟨S16, .i32⟩
  | .hbm, ⟨75, _⟩ => ⟨S3x8192, .f32⟩
  | .hbm, ⟨76, _⟩ => ⟨S4096x1, .i32⟩
  | .hbm, ⟨77, _⟩ => ⟨S16x1x512, .i32⟩
  | .hbm, ⟨78, _⟩ => ⟨S1x512, .f32⟩
  | .hbm, ⟨79, _⟩ => ⟨S1x256, .f32⟩
  | .hbm, ⟨80, _⟩ => ⟨S8192x256, .f32⟩
  | .local _ .vmem, ⟨0, _⟩ => ⟨S3x512, .f32⟩
  | .local _ .vmem, ⟨1, _⟩ => ⟨S3x512, .f32⟩
  | .local _ .vmem, ⟨2, _⟩ => ⟨S512x128, .f32⟩
  | .local _ .vmem, ⟨3, _⟩ => ⟨S512x128, .f32⟩
  | .local _ .vmem, ⟨4, _⟩ => ⟨S1x1x512, .i32⟩
  | .local _ .vmem, ⟨5, _⟩ => ⟨S1x1x512, .i32⟩
  | .local _ .vmem, ⟨6, _⟩ => ⟨S4096x3, .f32⟩
  | .local _ .vmem, ⟨7, _⟩ => ⟨S4096x1, .i32⟩
  | .local _ .vmem, ⟨8, _⟩ => ⟨S4096x512, .f32⟩
  | .local _ .vmem, ⟨9, _⟩ => ⟨S640x512, .f32⟩
  | .local _ .vmem, ⟨10, _⟩ => ⟨S1x512, .f32⟩
  | .local _ .vmem, ⟨11, _⟩ => ⟨S512x256, .f32⟩
  | .local _ .vmem, ⟨12, _⟩ => ⟨S1x256, .f32⟩
  | .local _ .vmem, ⟨13, _⟩ => ⟨S512x256, .f32⟩
  | .local _ .vmem, ⟨14, _⟩ => ⟨S512x256, .f32⟩
  | .local _ .smem, ⟨0, _⟩ => ⟨S16, .i32⟩
  | .local _ .smem, ⟨1, _⟩ => ⟨S16, .i32⟩
  | _, _ => ⟨S4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_c : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_c_0 : Ref sig .tc := ⟨.hbm, 26, rfl⟩
abbrev main_v15 : Ref sig .tc := ⟨.hbm, 27, rfl⟩
abbrev main_c_1 : Ref sig .tc := ⟨.hbm, 28, rfl⟩
abbrev main_call0_v0 : Ref sig .tc := ⟨.hbm, 29, rfl⟩
abbrev main_call0_v1 : Ref sig .tc := ⟨.hbm, 30, rfl⟩
abbrev main_call0_v2 : Ref sig .tc := ⟨.hbm, 31, rfl⟩
abbrev main_call0_v3 : Ref sig .tc := ⟨.hbm, 32, rfl⟩
abbrev main_call0_v4 : Ref sig .tc := ⟨.hbm, 33, rfl⟩
abbrev main_call0_v5 : Ref sig .tc := ⟨.hbm, 34, rfl⟩
abbrev main_call0_v6 : Ref sig .tc := ⟨.hbm, 35, rfl⟩
abbrev main_call0_v7 : Ref sig .tc := ⟨.hbm, 36, rfl⟩
abbrev main_call0_v8 : Ref sig .tc := ⟨.hbm, 37, rfl⟩
abbrev main_call0_c : Ref sig .tc := ⟨.hbm, 38, rfl⟩
abbrev main_call0_v9 : Ref sig .tc := ⟨.hbm, 39, rfl⟩
abbrev main_call0_v10 : Ref sig .tc := ⟨.hbm, 40, rfl⟩
abbrev main_call0_v11 : Ref sig .tc := ⟨.hbm, 41, rfl⟩
abbrev main_call0_c_0 : Ref sig .tc := ⟨.hbm, 42, rfl⟩
abbrev main_call0_v12 : Ref sig .tc := ⟨.hbm, 43, rfl⟩
abbrev main_call0_v13 : Ref sig .tc := ⟨.hbm, 44, rfl⟩
abbrev main_v16 : Ref sig .tc := ⟨.hbm, 45, rfl⟩
abbrev main_c_2 : Ref sig .tc := ⟨.hbm, 46, rfl⟩
abbrev main_v17 : Ref sig .tc := ⟨.hbm, 47, rfl⟩
abbrev main_v19 : Ref sig .tc := ⟨.hbm, 48, rfl⟩
abbrev main_c_3 : Ref sig .tc := ⟨.hbm, 49, rfl⟩
abbrev main_v20 : Ref sig .tc := ⟨.hbm, 50, rfl⟩
abbrev main_v21 : Ref sig .tc := ⟨.hbm, 51, rfl⟩
abbrev main_c_4 : Ref sig .tc := ⟨.hbm, 52, rfl⟩
abbrev main_v22 : Ref sig .tc := ⟨.hbm, 53, rfl⟩
abbrev main_v23 : Ref sig .tc := ⟨.hbm, 54, rfl⟩
abbrev main_c_5 : Ref sig .tc := ⟨.hbm, 55, rfl⟩
abbrev main_call1_v0 : Ref sig .tc := ⟨.hbm, 56, rfl⟩
abbrev main_call1_v1 : Ref sig .tc := ⟨.hbm, 57, rfl⟩
abbrev main_call1_v2 : Ref sig .tc := ⟨.hbm, 58, rfl⟩
abbrev main_call1_v3 : Ref sig .tc := ⟨.hbm, 59, rfl⟩
abbrev main_call1_v4 : Ref sig .tc := ⟨.hbm, 60, rfl⟩
abbrev main_call1_v5 : Ref sig .tc := ⟨.hbm, 61, rfl⟩
abbrev main_call1_v6 : Ref sig .tc := ⟨.hbm, 62, rfl⟩
abbrev main_call1_v7 : Ref sig .tc := ⟨.hbm, 63, rfl⟩
abbrev main_call1_v8 : Ref sig .tc := ⟨.hbm, 64, rfl⟩
abbrev main_call1_c : Ref sig .tc := ⟨.hbm, 65, rfl⟩
abbrev main_call1_v9 : Ref sig .tc := ⟨.hbm, 66, rfl⟩
abbrev main_call1_v10 : Ref sig .tc := ⟨.hbm, 67, rfl⟩
abbrev main_call1_v11 : Ref sig .tc := ⟨.hbm, 68, rfl⟩
abbrev main_call1_c_0 : Ref sig .tc := ⟨.hbm, 69, rfl⟩
abbrev main_call1_v12 : Ref sig .tc := ⟨.hbm, 70, rfl⟩
abbrev main_call1_v13 : Ref sig .tc := ⟨.hbm, 71, rfl⟩
abbrev main_v24 : Ref sig .tc := ⟨.hbm, 72, rfl⟩
abbrev main_c_6 : Ref sig .tc := ⟨.hbm, 73, rfl⟩
abbrev main_v25 : Ref sig .tc := ⟨.hbm, 74, rfl⟩
abbrev main_v27 : Ref sig .tc := ⟨.hbm, 75, rfl⟩
abbrev main_v28 : Ref sig .tc := ⟨.hbm, 76, rfl⟩
abbrev main_v29 : Ref sig .tc := ⟨.hbm, 77, rfl⟩
abbrev main_v30 : Ref sig .tc := ⟨.hbm, 78, rfl⟩
abbrev main_v31 : Ref sig .tc := ⟨.hbm, 79, rfl⟩
abbrev main_v32 : Ref sig .tc := ⟨.hbm, 80, rfl⟩
abbrev main_v18 : Ref sig .tc := ⟨.smem, 0, rfl⟩
abbrev main_v26 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg10_1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem10_1 : DmaSem sig := 14

abbrev nD : Nat := 1
abbrev τ : Topo := Topo.v7x

variable {F : FTy → Type} [FloatOps F]

abbrev grid0 : Pipeline.Grid := ⟨1, ![16], ![false]⟩

abbrev pre0 : Pipeline.Prefetch sig := ⟨2, ![main_v18.idx, main_v26.idx], fun | 0 => main_v18.names | 1 => main_v26.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
@[reducible] def k0_t1_loop (v3 : BitVec 32) : Scf.Loop 32 :=
  let c0_i32_8 : BitVec 32 := 0#32
  let v20 : BitVec 32 := Scalar.subi v3 c0_i32_8
  let c1_i32_9 : BitVec 32 := 1#32
  let v22 : BitVec 32 := Scalar.divsi v20 c1_i32_9
  let v23 : BitVec 32 := Scalar.muli v22 c1_i32_9
  let v24 : BitVec 32 := Scalar.addi c0_i32_8 v23
  let c1_i32_10 : BitVec 32 := 1#32
  ⟨c0_i32_8, v24, c1_i32_10⟩

def k0_mult1 (v1 : BitVec 32) (v3 : BitVec 32) (k0_t1 : Fin (k0_t1_loop v3).trips) : BitVec 32 :=
  let c0_i32_8 : BitVec 32 := 0#32
  let c1_i32_10 : BitVec 32 := 1#32
  let arg14 : BitVec 32 := Scf.iv c0_i32_8 c1_i32_10 k0_t1
  let c576_i32 : BitVec 32 := 576#32
  let v71 : BitVec 32 := Scalar.muli arg14 c576_i32
  let v72 : BitVec 32 := Scalar.addi v1 v71
  let c3520_i32 : BitVec 32 := 3520#32
  let v73 : BitVec 32 := Scalar.minsi v72 c3520_i32
  v73
def k0_off2 (v1 : BitVec 32) (v3 : BitVec 32) (k0_t1 : Fin (k0_t1_loop v3).trips) : Fin 2 → Nat :=
  let c0_i32_8 : BitVec 32 := 0#32
  let c1_i32_10 : BitVec 32 := 1#32
  let arg14 : BitVec 32 := Scf.iv c0_i32_8 c1_i32_10 k0_t1
  let c576_i32 : BitVec 32 := 576#32
  let v71 : BitVec 32 := Scalar.muli arg14 c576_i32
  let v72 : BitVec 32 := Scalar.addi v1 v71
  let c3520_i32 : BitVec 32 := 3520#32
  let v73 : BitVec 32 := Scalar.minsi v72 c3520_i32
  let v74 : BitVec 32 := v73
  let v76 : Index := Scalar.indexCast v74
  let c0_41 : Index := 0#32
  ![v76.toNat, 0]
def k0_off3 (v1 : BitVec 32) (v3 : BitVec 32) (k0_t1 : Fin (k0_t1_loop v3).trips) : Fin 2 → Nat :=
  let c0_i32_8 : BitVec 32 := 0#32
  let c1_i32_10 : BitVec 32 := 1#32
  let arg14 : BitVec 32 := Scf.iv c0_i32_8 c1_i32_10 k0_t1
  let c576_i32 : BitVec 32 := 576#32
  let v71 : BitVec 32 := Scalar.muli arg14 c576_i32
  let v72 : BitVec 32 := Scalar.addi v1 v71
  let c3520_i32 : BitVec 32 := 3520#32
  let v73 : BitVec 32 := Scalar.minsi v72 c3520_i32
  let v74 : BitVec 32 := v73
  let v86 : Index := Scalar.indexCast v74
  let c1_42 : Index := 1#32
  ![v86.toNat, 1]
def k0_off4 (v1 : BitVec 32) (v3 : BitVec 32) (k0_t1 : Fin (k0_t1_loop v3).trips) : Fin 2 → Nat :=
  let c0_i32_8 : BitVec 32 := 0#32
  let c1_i32_10 : BitVec 32 := 1#32
  let arg14 : BitVec 32 := Scf.iv c0_i32_8 c1_i32_10 k0_t1
  let c576_i32 : BitVec 32 := 576#32
  let v71 : BitVec 32 := Scalar.muli arg14 c576_i32
  let v72 : BitVec 32 := Scalar.addi v1 v71
  let c3520_i32 : BitVec 32 := 3520#32
  let v73 : BitVec 32 := Scalar.minsi v72 c3520_i32
  let v74 : BitVec 32 := v73
  let v96 : Index := Scalar.indexCast v74
  let c2_43 : Index := 2#32
  ![v96.toNat, 2]
def k0_off5 (v1 : BitVec 32) (v3 : BitVec 32) (k0_t1 : Fin (k0_t1_loop v3).trips) : Fin 2 → Nat :=
  let c0_i32_8 : BitVec 32 := 0#32
  let c1_i32_10 : BitVec 32 := 1#32
  let arg14 : BitVec 32 := Scf.iv c0_i32_8 c1_i32_10 k0_t1
  let c576_i32 : BitVec 32 := 576#32
  let v71 : BitVec 32 := Scalar.muli arg14 c576_i32
  let v72 : BitVec 32 := Scalar.addi v1 v71
  let c3520_i32 : BitVec 32 := 3520#32
  let v73 : BitVec 32 := Scalar.minsi v72 c3520_i32
  let v74 : BitVec 32 := v73
  let v106 : Index := Scalar.indexCast v74
  let c0_44 : Index := 0#32
  ![v106.toNat, 0]
@[reducible] def k0_t2_loop (v3 : BitVec 32) : Scf.Loop 32 :=
  let c0_i32_8 : BitVec 32 := 0#32
  let v20 : BitVec 32 := Scalar.subi v3 c0_i32_8
  let c1_i32_9 : BitVec 32 := 1#32
  let v22 : BitVec 32 := Scalar.divsi v20 c1_i32_9
  let v23 : BitVec 32 := Scalar.muli v22 c1_i32_9
  let v24 : BitVec 32 := Scalar.addi c0_i32_8 v23
  let v21 : BitVec 32 := Scalar.addi c0_i32_8 v20
  let c1_i32_11 : BitVec 32 := 1#32
  ⟨v24, v21, c1_i32_11⟩
def k0_mult2 (v1 : BitVec 32) (v3 : BitVec 32) (k0_t2 : Fin (k0_t2_loop v3).trips) : BitVec 32 :=
  let c0_i32_8 : BitVec 32 := 0#32
  let v20 : BitVec 32 := Scalar.subi v3 c0_i32_8
  let c1_i32_9 : BitVec 32 := 1#32
  let v22 : BitVec 32 := Scalar.divsi v20 c1_i32_9
  let v23 : BitVec 32 := Scalar.muli v22 c1_i32_9
  let v24 : BitVec 32 := Scalar.addi c0_i32_8 v23
  let c1_i32_11 : BitVec 32 := 1#32
  let arg14 : BitVec 32 := Scf.iv v24 c1_i32_11 k0_t2
  let c576_i32 : BitVec 32 := 576#32
  let v71 : BitVec 32 := Scalar.muli arg14 c576_i32
  let v72 : BitVec 32 := Scalar.addi v1 v71
  let c3520_i32 : BitVec 32 := 3520#32
  let v73 : BitVec 32 := Scalar.minsi v72 c3520_i32
  v73
def k0_off6 (v1 : BitVec 32) (v3 : BitVec 32) (k0_t2 : Fin (k0_t2_loop v3).trips) : Fin 2 → Nat :=
  let c0_i32_8 : BitVec 32 := 0#32
  let v20 : BitVec 32 := Scalar.subi v3 c0_i32_8
  let c1_i32_9 : BitVec 32 := 1#32
  let v22 : BitVec 32 := Scalar.divsi v20 c1_i32_9
  let v23 : BitVec 32 := Scalar.muli v22 c1_i32_9
  let v24 : BitVec 32 := Scalar.addi c0_i32_8 v23
  let c1_i32_11 : BitVec 32 := 1#32
  let arg14 : BitVec 32 := Scf.iv v24 c1_i32_11 k0_t2
  let c576_i32 : BitVec 32 := 576#32
  let v71 : BitVec 32 := Scalar.muli arg14 c576_i32
  let v72 : BitVec 32 := Scalar.addi v1 v71
  let c3520_i32 : BitVec 32 := 3520#32
  let v73 : BitVec 32 := Scalar.minsi v72 c3520_i32
  let v74 : BitVec 32 := v73
  let v76 : Index := Scalar.indexCast v74
  let c0_41 : Index := 0#32
  ![v76.toNat, 0]
def k0_off7 (v1 : BitVec 32) (v3 : BitVec 32) (k0_t2 : Fin (k0_t2_loop v3).trips) : Fin 2 → Nat :=
  let c0_i32_8 : BitVec 32 := 0#32
  let v20 : BitVec 32 := Scalar.subi v3 c0_i32_8
  let c1_i32_9 : BitVec 32 := 1#32
  let v22 : BitVec 32 := Scalar.divsi v20 c1_i32_9
  let v23 : BitVec 32 := Scalar.muli v22 c1_i32_9
  let v24 : BitVec 32 := Scalar.addi c0_i32_8 v23
  let c1_i32_11 : BitVec 32 := 1#32
  let arg14 : BitVec 32 := Scf.iv v24 c1_i32_11 k0_t2
  let c576_i32 : BitVec 32 := 576#32
  let v71 : BitVec 32 := Scalar.muli arg14 c576_i32
  let v72 : BitVec 32 := Scalar.addi v1 v71
  let c3520_i32 : BitVec 32 := 3520#32
  let v73 : BitVec 32 := Scalar.minsi v72 c3520_i32
  let v74 : BitVec 32 := v73
  let v86 : Index := Scalar.indexCast v74
  let c1_42 : Index := 1#32
  ![v86.toNat, 1]
def k0_off8 (v1 : BitVec 32) (v3 : BitVec 32) (k0_t2 : Fin (k0_t2_loop v3).trips) : Fin 2 → Nat :=
  let c0_i32_8 : BitVec 32 := 0#32
  let v20 : BitVec 32 := Scalar.subi v3 c0_i32_8
  let c1_i32_9 : BitVec 32 := 1#32
  let v22 : BitVec 32 := Scalar.divsi v20 c1_i32_9
  let v23 : BitVec 32 := Scalar.muli v22 c1_i32_9
  let v24 : BitVec 32 := Scalar.addi c0_i32_8 v23
  let c1_i32_11 : BitVec 32 := 1#32
  let arg14 : BitVec 32 := Scf.iv v24 c1_i32_11 k0_t2
  let c576_i32 : BitVec 32 := 576#32
  let v71 : BitVec 32 := Scalar.muli arg14 c576_i32
  let v72 : BitVec 32 := Scalar.addi v1 v71
  let c3520_i32 : BitVec 32 := 3520#32
  let v73 : BitVec 32 := Scalar.minsi v72 c3520_i32
  let v74 : BitVec 32 := v73
  let v96 : Index := Scalar.indexCast v74
  let c2_43 : Index := 2#32
  ![v96.toNat, 2]
def k0_off9 (v1 : BitVec 32) (v3 : BitVec 32) (k0_t2 : Fin (k0_t2_loop v3).trips) : Fin 2 → Nat :=
  let c0_i32_8 : BitVec 32 := 0#32
  let v20 : BitVec 32 := Scalar.subi v3 c0_i32_8
  let c1_i32_9 : BitVec 32 := 1#32
  let v22 : BitVec 32 := Scalar.divsi v20 c1_i32_9
  let v23 : BitVec 32 := Scalar.muli v22 c1_i32_9
  let v24 : BitVec 32 := Scalar.addi c0_i32_8 v23
  let c1_i32_11 : BitVec 32 := 1#32
  let arg14 : BitVec 32 := Scf.iv v24 c1_i32_11 k0_t2
  let c576_i32 : BitVec 32 := 576#32
  let v71 : BitVec 32 := Scalar.muli arg14 c576_i32
  let v72 : BitVec 32 := Scalar.addi v1 v71
  let c3520_i32 : BitVec 32 := 3520#32
  let v73 : BitVec 32 := Scalar.minsi v72 c3520_i32
  let v74 : BitVec 32 := v73
  let v106 : Index := Scalar.indexCast v74
  let c0_44 : Index := 0#32
  ![v106.toNat, 0]
@[reducible] def k0_t3_loop (v3 : BitVec 32) : Scf.Loop 32 :=
  let c0_i32_19 : BitVec 32 := 0#32
  let v45 : BitVec 32 := Scalar.subi v3 c0_i32_19
  let c1_i32_20 : BitVec 32 := 1#32
  let v47 : BitVec 32 := Scalar.divsi v45 c1_i32_20
  let v48 : BitVec 32 := Scalar.muli v47 c1_i32_20
  let v49 : BitVec 32 := Scalar.addi c0_i32_19 v48
  let c1_i32_21 : BitVec 32 := 1#32
  ⟨c0_i32_19, v49, c1_i32_21⟩
def k0_mult3 (v1 : BitVec 32) (v3 : BitVec 32) (k0_t3 : Fin (k0_t3_loop v3).trips) : BitVec 32 :=
  let c0_i32_19 : BitVec 32 := 0#32
  let c1_i32_21 : BitVec 32 := 1#32
  let arg14 : BitVec 32 := Scf.iv c0_i32_19 c1_i32_21 k0_t3
  let c576_i32 : BitVec 32 := 576#32
  let v71 : BitVec 32 := Scalar.muli arg14 c576_i32
  let v72 : BitVec 32 := Scalar.addi v1 v71
  let c3520_i32 : BitVec 32 := 3520#32
  let v73 : BitVec 32 := Scalar.minsi v72 c3520_i32
  v73
def k0_off10 (v1 : BitVec 32) (v3 : BitVec 32) (k0_t3 : Fin (k0_t3_loop v3).trips) : Fin 2 → Nat :=
  let c0_i32_19 : BitVec 32 := 0#32
  let c1_i32_21 : BitVec 32 := 1#32
  let arg14 : BitVec 32 := Scf.iv c0_i32_19 c1_i32_21 k0_t3
  let c576_i32 : BitVec 32 := 576#32
  let v71 : BitVec 32 := Scalar.muli arg14 c576_i32
  let v72 : BitVec 32 := Scalar.addi v1 v71
  let c3520_i32 : BitVec 32 := 3520#32
  let v73 : BitVec 32 := Scalar.minsi v72 c3520_i32
  let v74 : BitVec 32 := v73
  let v75 : Index := Scalar.indexCast v74
  let c0_40 : Index := 0#32
  ![v75.toNat, 0]
@[reducible] def k0_t4_loop (v3 : BitVec 32) : Scf.Loop 32 :=
  let c0_i32_19 : BitVec 32 := 0#32
  let v45 : BitVec 32 := Scalar.subi v3 c0_i32_19
  let c1_i32_20 : BitVec 32 := 1#32
  let v47 : BitVec 32 := Scalar.divsi v45 c1_i32_20
  let v48 : BitVec 32 := Scalar.muli v47 c1_i32_20
  let v49 : BitVec 32 := Scalar.addi c0_i32_19 v48
  let v46 : BitVec 32 := Scalar.addi c0_i32_19 v45
  let c1_i32_22 : BitVec 32 := 1#32
  ⟨v49, v46, c1_i32_22⟩
def k0_mult4 (v1 : BitVec 32) (v3 : BitVec 32) (k0_t4 : Fin (k0_t4_loop v3).trips) : BitVec 32 :=
  let c0_i32_19 : BitVec 32 := 0#32
  let v45 : BitVec 32 := Scalar.subi v3 c0_i32_19
  let c1_i32_20 : BitVec 32 := 1#32
  let v47 : BitVec 32 := Scalar.divsi v45 c1_i32_20
  let v48 : BitVec 32 := Scalar.muli v47 c1_i32_20
  let v49 : BitVec 32 := Scalar.addi c0_i32_19 v48
  let c1_i32_22 : BitVec 32 := 1#32
  let arg14 : BitVec 32 := Scf.iv v49 c1_i32_22 k0_t4
  let c576_i32 : BitVec 32 := 576#32
  let v71 : BitVec 32 := Scalar.muli arg14 c576_i32
  let v72 : BitVec 32 := Scalar.addi v1 v71
  let c3520_i32 : BitVec 32 := 3520#32
  let v73 : BitVec 32 := Scalar.minsi v72 c3520_i32
  v73
def k0_off11 (v1 : BitVec 32) (v3 : BitVec 32) (k0_t4 : Fin (k0_t4_loop v3).trips) : Fin 2 → Nat :=
  let c0_i32_19 : BitVec 32 := 0#32
  let v45 : BitVec 32 := Scalar.subi v3 c0_i32_19
  let c1_i32_20 : BitVec 32 := 1#32
  let v47 : BitVec 32 := Scalar.divsi v45 c1_i32_20
  let v48 : BitVec 32 := Scalar.muli v47 c1_i32_20
  let v49 : BitVec 32 := Scalar.addi c0_i32_19 v48
  let c1_i32_22 : BitVec 32 := 1#32
  let arg14 : BitVec 32 := Scf.iv v49 c1_i32_22 k0_t4
  let c576_i32 : BitVec 32 := 576#32
  let v71 : BitVec 32 := Scalar.muli arg14 c576_i32
  let v72 : BitVec 32 := Scalar.addi v1 v71
  let c3520_i32 : BitVec 32 := 3520#32
  let v73 : BitVec 32 := Scalar.minsi v72 c3520_i32
  let v74 : BitVec 32 := v73
  let v75 : Index := Scalar.indexCast v74
  let c0_40 : Index := 0#32
  ![v75.toNat, 0]

def k0_chk1 (v1 : BitVec 32) (v3 : BitVec 32) : Prop :=
  ((k0_t1_loop v3).OK) ∧
  (∀ k0_t1 : Fin (k0_t1_loop v3).trips, 8 ∣ (k0_mult1 v1 v3 k0_t1).toNat) ∧
  (∀ k0_t1 : Fin (k0_t1_loop v3).trips, ∀ a, (k0_off2 v1 v3 k0_t1) a + S576x1.size a ≤ S4096x3.size a) ∧
  (∀ k0_t1 : Fin (k0_t1_loop v3).trips, ∀ a, (k0_off3 v1 v3 k0_t1) a + S576x1.size a ≤ S4096x3.size a) ∧
  (∀ k0_t1 : Fin (k0_t1_loop v3).trips, ∀ a, (k0_off4 v1 v3 k0_t1) a + S576x1.size a ≤ S4096x3.size a) ∧
  (∀ k0_t1 : Fin (k0_t1_loop v3).trips, ∀ a, (k0_off5 v1 v3 k0_t1) a + S576x1.size a ≤ S4096x1.size a) ∧
  ((k0_t2_loop v3).OK) ∧
  (∀ k0_t2 : Fin (k0_t2_loop v3).trips, 8 ∣ (k0_mult2 v1 v3 k0_t2).toNat) ∧
  (∀ k0_t2 : Fin (k0_t2_loop v3).trips, ∀ a, (k0_off6 v1 v3 k0_t2) a + S576x1.size a ≤ S4096x3.size a) ∧
  (∀ k0_t2 : Fin (k0_t2_loop v3).trips, ∀ a, (k0_off7 v1 v3 k0_t2) a + S576x1.size a ≤ S4096x3.size a) ∧
  (∀ k0_t2 : Fin (k0_t2_loop v3).trips, ∀ a, (k0_off8 v1 v3 k0_t2) a + S576x1.size a ≤ S4096x3.size a) ∧
  (∀ k0_t2 : Fin (k0_t2_loop v3).trips, ∀ a, (k0_off9 v1 v3 k0_t2) a + S576x1.size a ≤ S4096x1.size a) ∧
  ((k0_t3_loop v3).OK) ∧
  (∀ k0_t3 : Fin (k0_t3_loop v3).trips, 8 ∣ (k0_mult3 v1 v3 k0_t3).toNat) ∧
  (∀ k0_t3 : Fin (k0_t3_loop v3).trips, ∀ a, (k0_off10 v1 v3 k0_t3) a + S576x512.size a ≤ S4096x512.size a) ∧
  ((k0_t4_loop v3).OK) ∧
  (∀ k0_t4 : Fin (k0_t4_loop v3).trips, 8 ∣ (k0_mult4 v1 v3 k0_t4).toNat) ∧
  (∀ k0_t4 : Fin (k0_t4_loop v3).trips, ∀ a, (k0_off11 v1 v3 k0_t4) a + S576x512.size a ≤ S4096x512.size a)
theorem k0_t1_ok : ∀ (v1 : BitVec 32) (v3 : BitVec 32) (k0_hw1 : k0_chk1 v1 v3), (k0_t1_loop v3).OK := fun v1 v3 k0_hw1 => k0_hw1.1
theorem k0_mult1_dvd : ∀ (v1 : BitVec 32) (v3 : BitVec 32) (k0_hw1 : k0_chk1 v1 v3) (k0_t1 : Fin (k0_t1_loop v3).trips), 8 ∣ (k0_mult1 v1 v3 k0_t1).toNat := fun v1 v3 k0_hw1 k0_t1 => k0_hw1.2.1 k0_t1
theorem k0_off2_inb : ∀ (v1 : BitVec 32) (v3 : BitVec 32) (k0_hw1 : k0_chk1 v1 v3) (k0_t1 : Fin (k0_t1_loop v3).trips), ∀ a, (k0_off2 v1 v3 k0_t1) a + S576x1.size a ≤ S4096x3.size a := fun v1 v3 k0_hw1 k0_t1 => k0_hw1.2.2.1 k0_t1
theorem k0_off3_inb : ∀ (v1 : BitVec 32) (v3 : BitVec 32) (k0_hw1 : k0_chk1 v1 v3) (k0_t1 : Fin (k0_t1_loop v3).trips), ∀ a, (k0_off3 v1 v3 k0_t1) a + S576x1.size a ≤ S4096x3.size a := fun v1 v3 k0_hw1 k0_t1 => k0_hw1.2.2.2.1 k0_t1
theorem k0_off4_inb : ∀ (v1 : BitVec 32) (v3 : BitVec 32) (k0_hw1 : k0_chk1 v1 v3) (k0_t1 : Fin (k0_t1_loop v3).trips), ∀ a, (k0_off4 v1 v3 k0_t1) a + S576x1.size a ≤ S4096x3.size a := fun v1 v3 k0_hw1 k0_t1 => k0_hw1.2.2.2.2.1 k0_t1
theorem k0_off5_inb : ∀ (v1 : BitVec 32) (v3 : BitVec 32) (k0_hw1 : k0_chk1 v1 v3) (k0_t1 : Fin (k0_t1_loop v3).trips), ∀ a, (k0_off5 v1 v3 k0_t1) a + S576x1.size a ≤ S4096x1.size a := fun v1 v3 k0_hw1 k0_t1 => k0_hw1.2.2.2.2.2.1 k0_t1
theorem k0_t2_ok : ∀ (v1 : BitVec 32) (v3 : BitVec 32) (k0_hw1 : k0_chk1 v1 v3), (k0_t2_loop v3).OK := fun v1 v3 k0_hw1 => k0_hw1.2.2.2.2.2.2.1
theorem k0_mult2_dvd : ∀ (v1 : BitVec 32) (v3 : BitVec 32) (k0_hw1 : k0_chk1 v1 v3) (k0_t2 : Fin (k0_t2_loop v3).trips), 8 ∣ (k0_mult2 v1 v3 k0_t2).toNat := fun v1 v3 k0_hw1 k0_t2 => k0_hw1.2.2.2.2.2.2.2.1 k0_t2
theorem k0_off6_inb : ∀ (v1 : BitVec 32) (v3 : BitVec 32) (k0_hw1 : k0_chk1 v1 v3) (k0_t2 : Fin (k0_t2_loop v3).trips), ∀ a, (k0_off6 v1 v3 k0_t2) a + S576x1.size a ≤ S4096x3.size a := fun v1 v3 k0_hw1 k0_t2 => k0_hw1.2.2.2.2.2.2.2.2.1 k0_t2
theorem k0_off7_inb : ∀ (v1 : BitVec 32) (v3 : BitVec 32) (k0_hw1 : k0_chk1 v1 v3) (k0_t2 : Fin (k0_t2_loop v3).trips), ∀ a, (k0_off7 v1 v3 k0_t2) a + S576x1.size a ≤ S4096x3.size a := fun v1 v3 k0_hw1 k0_t2 => k0_hw1.2.2.2.2.2.2.2.2.2.1 k0_t2
theorem k0_off8_inb : ∀ (v1 : BitVec 32) (v3 : BitVec 32) (k0_hw1 : k0_chk1 v1 v3) (k0_t2 : Fin (k0_t2_loop v3).trips), ∀ a, (k0_off8 v1 v3 k0_t2) a + S576x1.size a ≤ S4096x3.size a := fun v1 v3 k0_hw1 k0_t2 => k0_hw1.2.2.2.2.2.2.2.2.2.2.1 k0_t2
theorem k0_off9_inb : ∀ (v1 : BitVec 32) (v3 : BitVec 32) (k0_hw1 : k0_chk1 v1 v3) (k0_t2 : Fin (k0_t2_loop v3).trips), ∀ a, (k0_off9 v1 v3 k0_t2) a + S576x1.size a ≤ S4096x1.size a := fun v1 v3 k0_hw1 k0_t2 => k0_hw1.2.2.2.2.2.2.2.2.2.2.2.1 k0_t2
theorem k0_t3_ok : ∀ (v1 : BitVec 32) (v3 : BitVec 32) (k0_hw1 : k0_chk1 v1 v3), (k0_t3_loop v3).OK := fun v1 v3 k0_hw1 => k0_hw1.2.2.2.2.2.2.2.2.2.2.2.2.1
theorem k0_mult3_dvd : ∀ (v1 : BitVec 32) (v3 : BitVec 32) (k0_hw1 : k0_chk1 v1 v3) (k0_t3 : Fin (k0_t3_loop v3).trips), 8 ∣ (k0_mult3 v1 v3 k0_t3).toNat := fun v1 v3 k0_hw1 k0_t3 => k0_hw1.2.2.2.2.2.2.2.2.2.2.2.2.2.1 k0_t3
theorem k0_off10_inb : ∀ (v1 : BitVec 32) (v3 : BitVec 32) (k0_hw1 : k0_chk1 v1 v3) (k0_t3 : Fin (k0_t3_loop v3).trips), ∀ a, (k0_off10 v1 v3 k0_t3) a + S576x512.size a ≤ S4096x512.size a := fun v1 v3 k0_hw1 k0_t3 => k0_hw1.2.2.2.2.2.2.2.2.2.2.2.2.2.2.1 k0_t3
theorem k0_t4_ok : ∀ (v1 : BitVec 32) (v3 : BitVec 32) (k0_hw1 : k0_chk1 v1 v3), (k0_t4_loop v3).OK := fun v1 v3 k0_hw1 => k0_hw1.2.2.2.2.2.2.2.2.2.2.2.2.2.2.2.1
theorem k0_mult4_dvd : ∀ (v1 : BitVec 32) (v3 : BitVec 32) (k0_hw1 : k0_chk1 v1 v3) (k0_t4 : Fin (k0_t4_loop v3).trips), 8 ∣ (k0_mult4 v1 v3 k0_t4).toNat := fun v1 v3 k0_hw1 k0_t4 => k0_hw1.2.2.2.2.2.2.2.2.2.2.2.2.2.2.2.2.1 k0_t4
theorem k0_off11_inb : ∀ (v1 : BitVec 32) (v3 : BitVec 32) (k0_hw1 : k0_chk1 v1 v3) (k0_t4 : Fin (k0_t4_loop v3).trips), ∀ a, (k0_off11 v1 v3 k0_t4) a + S576x512.size a ≤ S4096x512.size a := fun v1 v3 k0_hw1 k0_t4 => k0_hw1.2.2.2.2.2.2.2.2.2.2.2.2.2.2.2.2.2 k0_t4

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S3x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x512 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S4096x3 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S4096x1 .i32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S4096x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S640x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S512x256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x256 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S512x256 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== ReferenceIdeal.lean ====
abbrev S4096x512 : Shape := ⟨2, ![4096, 512]⟩
abbrev S4096x3 : Shape := ⟨2, ![4096, 3]⟩
abbrev S4096 : Shape := ⟨1, ![4096]⟩
abbrev S8192x128 : Shape := ⟨2, ![8192, 128]⟩
abbrev S8192x3 : Shape := ⟨2, ![8192, 3]⟩
abbrev S8192 : Shape := ⟨1, ![8192]⟩
abbrev S640x512 : Shape := ⟨2, ![640, 512]⟩
abbrev S512 : Shape := ⟨1, ![512]⟩
abbrev S512x256 : Shape := ⟨2, ![512, 256]⟩
abbrev S256 : Shape := ⟨1, ![256]⟩
abbrev S8192x1x3 : Shape := ⟨3, ![8192, 1, 3]⟩
abbrev S1x4096x3 : Shape := ⟨3, ![1, 4096, 3]⟩
abbrev S8192x4096x3 : Shape := ⟨3, ![8192, 4096, 3]⟩
abbrev S_ : Shape := ⟨0, ![]⟩
abbrev S8192x4096 : Shape := ⟨2, ![8192, 4096]⟩
abbrev S8192x1 : Shape := ⟨2, ![8192, 1]⟩
abbrev S1x4096 : Shape := ⟨2, ![1, 4096]⟩
abbrev S8192x3x1 : Shape := ⟨3, ![8192, 3, 1]⟩
abbrev S1 : Shape := ⟨1, ![1]⟩
abbrev S1x1x1 : Shape := ⟨3, ![1, 1, 1]⟩
abbrev S8192x3x512 : Shape := ⟨3, ![8192, 3, 512]⟩
abbrev S8192x512 : Shape := ⟨2, ![8192, 512]⟩
abbrev S8192x640 : Shape := ⟨2, ![8192, 640]⟩
abbrev S1x512 : Shape := ⟨2, ![1, 512]⟩
abbrev S8192x256 : Shape := ⟨2, ![8192, 256]⟩
abbrev S1x256 : Shape := ⟨2, ![1, 256]⟩

abbrev nBuf : Space → Nat
  | .hbm => 81
  | .vmem => 0
  | .smem => 0
  | _ => 0

abbrev bufTy : (tb : Table) → Fin (tcTables nBuf tb) → BufTy
  | .hbm, ⟨0, _⟩ => ⟨S4096x512, .f32⟩
  | .hbm, ⟨1, _⟩ => ⟨S4096x3, .f32⟩
  | .hbm, ⟨2, _⟩ => ⟨S4096, .i32⟩
  | .hbm, ⟨3, _⟩ => ⟨S8192x128, .f32⟩
  | .hbm, ⟨4, _⟩ => ⟨S8192x3, .f32⟩
  | .hbm, ⟨5, _⟩ => ⟨S8192, .i32⟩
  | .hbm, ⟨6, _⟩ => ⟨S640x512, .f32⟩
  | .hbm, ⟨7, _⟩ => ⟨S512, .f32⟩
  | .hbm, ⟨8, _⟩ => ⟨S512x256, .f32⟩
  | .hbm, ⟨9, _⟩ => ⟨S256, .f32⟩
  | .hbm, ⟨10, _⟩ => ⟨S8192x1x3, .f32⟩
  | .hbm, ⟨11, _⟩ => ⟨S1x4096x3, .f32⟩
  | .hbm, ⟨12, _⟩ => ⟨S8192x4096x3, .f32⟩
  | .hbm, ⟨13, _⟩ => ⟨S8192x4096x3, .f32⟩
  | .hbm, ⟨14, _⟩ => ⟨S8192x4096x3, .f32⟩
  | .hbm, ⟨15, _⟩ => ⟨S8192x4096x3, .f32⟩
  | .hbm, ⟨16, _⟩ => ⟨S_, .f32⟩
  | .hbm, ⟨17, _⟩ => ⟨S8192x4096, .f32⟩
  | .hbm, ⟨18, _⟩ => ⟨S8192x1, .i32⟩
  | .hbm, ⟨19, _⟩ => ⟨S1x4096, .i32⟩
  | .hbm, ⟨20, _⟩ => ⟨S8192x4096, .i32⟩
  | .hbm, ⟨21, _⟩ => ⟨S8192x4096, .i32⟩
  | .hbm, ⟨22, _⟩ => ⟨S8192x4096, .i1⟩
  | .hbm, ⟨23, _⟩ => ⟨S_, .f32⟩
  | .hbm, ⟨24, _⟩ => ⟨S8192x4096, .f32⟩
  | .hbm, ⟨25, _⟩ => ⟨S8192x4096, .f32⟩
  | .hbm, ⟨26, _⟩ => ⟨S8192x4096, .f32⟩
  | .hbm, ⟨27, _⟩ => ⟨S8192x3, .f32⟩
  | .hbm, ⟨28, _⟩ => ⟨S8192x3, .i32⟩
  | .hbm, ⟨29, _⟩ => ⟨S8192x3, .f32⟩
  | .hbm, ⟨30, _⟩ => ⟨S_, .f32⟩
  | .hbm, ⟨31, _⟩ => ⟨S8192x3, .f32⟩
  | .hbm, ⟨32, _⟩ => ⟨S8192x3, .f32⟩
  | .hbm, ⟨33, _⟩ => ⟨S_, .f32⟩
  | .hbm, ⟨34, _⟩ => ⟨S8192x3, .f32⟩
  | .hbm, ⟨35, _⟩ => ⟨S8192x3, .f32⟩
  | .hbm, ⟨36, _⟩ => ⟨S_, .i32⟩
  | .hbm, ⟨37, _⟩ => ⟨S8192x3, .i32⟩
  | .hbm, ⟨38, _⟩ => ⟨S8192x3, .i1⟩
  | .hbm, ⟨39, _⟩ => ⟨S_, .i32⟩
  | .hbm, ⟨40, _⟩ => ⟨S8192x3, .i32⟩
  | .hbm, ⟨41, _⟩ => ⟨S8192x3, .i32⟩
  | .hbm, ⟨42, _⟩ => ⟨S8192x3, .i32⟩
  | .hbm, ⟨43, _⟩ => ⟨S8192x3x1, .i32⟩
  | .hbm, ⟨44, _⟩ => ⟨S1, .i32⟩
  | .hbm, ⟨45, _⟩ => ⟨S_, .i32⟩
  | .hbm, ⟨46, _⟩ => ⟨S8192x3x1, .i32⟩
  | .hbm, ⟨47, _⟩ => ⟨S8192x3x1, .i1⟩
  | .hbm, ⟨48, _⟩ => ⟨S1x1x1, .i32⟩
  | .hbm, ⟨49, _⟩ => ⟨S8192x3x1, .i32⟩
  | .hbm, ⟨50, _⟩ => ⟨S8192x3x1, .i1⟩
  | .hbm, ⟨51, _⟩ => ⟨S8192x3x1, .i1⟩
  | .hbm, ⟨52, _⟩ => ⟨S_, .i1⟩
  | .hbm, ⟨53, _⟩ => ⟨S8192x3, .i1⟩
  | .hbm, ⟨54, _⟩ => ⟨S8192x3x512, .f32⟩
  | .hbm, ⟨55, _⟩ => ⟨S8192x3x512, .i1⟩
  | .hbm, ⟨56, _⟩ => ⟨S_, .f32⟩
  | .hbm, ⟨57, _⟩ => ⟨S8192x3x512, .f32⟩
  | .hbm, ⟨58, _⟩ => ⟨S8192x3x512, .f32⟩
  | .hbm, ⟨59, _⟩ => ⟨S8192x3x1, .f32⟩
  | .hbm, ⟨60, _⟩ => ⟨S8192x3x512, .f32⟩
  | .hbm, ⟨61, _⟩ => ⟨S8192x3x512, .f32⟩
  | .hbm, ⟨62, _⟩ => ⟨S_, .f32⟩
  | .hbm, ⟨63, _⟩ => ⟨S8192x512, .f32⟩
  | .hbm, ⟨64, _⟩ => ⟨S_, .f32⟩
  | .hbm, ⟨65, _⟩ => ⟨S8192, .f32⟩
  | .hbm, ⟨66, _⟩ => ⟨S8192x1, .f32⟩
  | .hbm, ⟨67, _⟩ => ⟨S8192x512, .f32⟩
  | .hbm, ⟨68, _⟩ => ⟨S8192x512, .f32⟩
  | .hbm, ⟨69, _⟩ => ⟨S8192x640, .f32⟩
  | .hbm, ⟨70, _⟩ => ⟨S8192x512, .f32⟩
  | .hbm, ⟨71, _⟩ => ⟨S1x512, .f32⟩
  | .hbm, ⟨72, _⟩ => ⟨S8192x512, .f32⟩
  | .hbm, ⟨73, _⟩ => ⟨S8192x512, .f32⟩
  | .hbm, ⟨74, _⟩ => ⟨S_, .f32⟩
  | .hbm, ⟨75, _⟩ => ⟨S8192x512, .f32⟩
  | .hbm, ⟨76, _⟩ => ⟨S8192x512, .f32⟩
  | .hbm, ⟨77, _⟩ => ⟨S8192x256, .f32⟩
  | .hbm, ⟨78, _⟩ => ⟨S1x256, .f32⟩
  | .hbm, ⟨79, _⟩ => ⟨S8192x256, .f32⟩
  | .hbm, ⟨80, _⟩ => ⟨S8192x256, .f32⟩
  | _, _ => ⟨S4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_cst : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_cst_0 : Ref sig .tc := ⟨.hbm, 23, rfl⟩
abbrev main_call0_v0 : Ref sig .tc := ⟨.hbm, 24, rfl⟩
abbrev main_v12 : Ref sig .tc := ⟨.hbm, 25, rfl⟩
abbrev main_v13 : Ref sig .tc := ⟨.hbm, 26, rfl⟩
abbrev main_values : Ref sig .tc := ⟨.hbm, 27, rfl⟩
abbrev main_indices : Ref sig .tc := ⟨.hbm, 28, rfl⟩
abbrev main_v14 : Ref sig .tc := ⟨.hbm, 29, rfl⟩
abbrev main_cst_1 : Ref sig .tc := ⟨.hbm, 30, rfl⟩
abbrev main_v15 : Ref sig .tc := ⟨.hbm, 31, rfl⟩
abbrev main_v16 : Ref sig .tc := ⟨.hbm, 32, rfl⟩
abbrev main_cst_2 : Ref sig .tc := ⟨.hbm, 33, rfl⟩
abbrev main_v17 : Ref sig .tc := ⟨.hbm, 34, rfl⟩
abbrev main_v18 : Ref sig .tc := ⟨.hbm, 35, rfl⟩
abbrev main_call1_c : Ref sig .tc := ⟨.hbm, 36, rfl⟩
abbrev main_call1_v0 : Ref sig .tc := ⟨.hbm, 37, rfl⟩
abbrev main_call1_v1 : Ref sig .tc := ⟨.hbm, 38, rfl⟩
abbrev main_call1_c_0 : Ref sig .tc := ⟨.hbm, 39, rfl⟩
abbrev main_call1_v2 : Ref sig .tc := ⟨.hbm, 40, rfl⟩
abbrev main_call1_v3 : Ref sig .tc := ⟨.hbm, 41, rfl⟩
abbrev main_call1_v4 : Ref sig .tc := ⟨.hbm, 42, rfl⟩
abbrev main_call1_v5 : Ref sig .tc := ⟨.hbm, 43, rfl⟩
abbrev main_call1_c_1 : Ref sig .tc := ⟨.hbm, 44, rfl⟩
abbrev main_call1_c_2 : Ref sig .tc := ⟨.hbm, 45, rfl⟩
abbrev main_call1_v6 : Ref sig .tc := ⟨.hbm, 46, rfl⟩
abbrev main_call1_v7 : Ref sig .tc := ⟨.hbm, 47, rfl⟩
abbrev main_call1_v8 : Ref sig .tc := ⟨.hbm, 48, rfl⟩
abbrev main_call1_v9 : Ref sig .tc := ⟨.hbm, 49, rfl⟩
abbrev main_call1_v10 : Ref sig .tc := ⟨.hbm, 50, rfl⟩
abbrev main_call1_v11 : Ref sig .tc := ⟨.hbm, 51, rfl⟩
abbrev main_call1_c_3 : Ref sig .tc := ⟨.hbm, 52, rfl⟩
abbrev main_call1_v12 : Ref sig .tc := ⟨.hbm, 53, rfl⟩
abbrev main_call1_v13 : Ref sig .tc := ⟨.hbm, 54, rfl⟩
abbrev main_call1_v14 : Ref sig .tc := ⟨.hbm, 55, rfl⟩
abbrev main_call1_cst : Ref sig .tc := ⟨.hbm, 56, rfl⟩
abbrev main_call1_v15 : Ref sig .tc := ⟨.hbm, 57, rfl⟩
abbrev main_v19 : Ref sig .tc := ⟨.hbm, 58, rfl⟩
abbrev main_v20 : Ref sig .tc := ⟨.hbm, 59, rfl⟩
abbrev main_v21 : Ref sig .tc := ⟨.hbm, 60, rfl⟩
abbrev main_v22 : Ref sig .tc := ⟨.hbm, 61, rfl⟩
abbrev main_cst_3 : Ref sig .tc := ⟨.hbm, 62, rfl⟩
abbrev main_v23 : Ref sig .tc := ⟨.hbm, 63, rfl⟩
abbrev main_cst_4 : Ref sig .tc := ⟨.hbm, 64, rfl⟩
abbrev main_v24 : Ref sig .tc := ⟨.hbm, 65, rfl⟩
abbrev main_v25 : Ref sig .tc := ⟨.hbm, 66, rfl⟩
abbrev main_v26 : Ref sig .tc := ⟨.hbm, 67, rfl⟩
abbrev main_v27 : Ref sig .tc := ⟨.hbm, 68, rfl⟩
abbrev main_v28 : Ref sig .tc := ⟨.hbm, 69, rfl⟩
abbrev main_v29 : Ref sig .tc := ⟨.hbm, 70, rfl⟩
abbrev main_v30 : Ref sig .tc := ⟨.hbm, 71, rfl⟩
abbrev main_v31 : Ref sig .tc := ⟨.hbm, 72, rfl⟩
abbrev main_v32 : Ref sig .tc := ⟨.hbm, 73, rfl⟩
abbrev main_call2_cst : Ref sig .tc := ⟨.hbm, 74, rfl⟩
abbrev main_call2_v0 : Ref sig .tc := ⟨.hbm, 75, rfl⟩
abbrev main_v33 : Ref sig .tc := ⟨.hbm, 76, rfl⟩
abbrev main_v34 : Ref sig .tc := ⟨.hbm, 77, rfl⟩
abbrev main_v35 : Ref sig .tc := ⟨.hbm, 78, rfl⟩
abbrev main_v36 : Ref sig .tc := ⟨.hbm, 79, rfl⟩
abbrev main_v37 : Ref sig .tc := ⟨.hbm, 80, rfl⟩

abbrev nD : Nat := 1
abbrev τ : Topo := Topo.v7x

variable {F : FTy → Type} [FloatOps F]
-- ==== Proof.Words.lean ====
module

public import Idealize.ShloMosaic.Lib.StableHlo.Predicate
public import Idealize.ShloMosaic.Lib.StableHlo.ReadAt
public import Idealize.ShloMosaic.Lib.Tactic.WordOmega
public import Idealize.ShloMosaic.Lib.Scf

@[expose] public section

set_option maxRecDepth 16384

noncomputable section

namespace Cert.Words

open Idealize.ShloMosaic

/-- Python's floor division of a word by a positive word, as the host program spells it: the truncated quotient,
    one less when the signs differ and the division leaves a remainder. -/
def floorDiv (x d : BitVec 32) : BitVec 32 :=
  Scalar.select
    (IntOp.andi (IntOp.cmpi .ne (if x = 0 then (0 : BitVec 32) else if x.msb = true then -1 else 1) (if d = 0 then (0 : BitVec 32) else if d.msb = true then -1 else 1))
      (IntOp.cmpi .ne (IntOp.remsi .host x d) 0#32))
    (IntOp.subi (IntOp.divsi .host x d) 1#32) (IntOp.divsi .host x d)

/-- The first row a block looks at, from the number of rows that sort before it: rounded down to a multiple of 8. -/
theorem start_word : ∀ k : Fin 4097, IntOp.muli (floorDiv (BitVec.ofNat 32 k.val) 8#32) 8#32 = BitVec.ofNat 32 (k.val / 8 * 8) := by
  decide +kernel

/-- The number of tiles, from the number of rows to cover shifted by 4096 (the difference may be negative, and then no
    tile is looked at). -/
theorem tiles_word : ∀ k : Fin 8193,
    IntOp.maxsi 0#32 (floorDiv (IntOp.subi (IntOp.addi (BitVec.ofNat 32 k.val - 4096#32) 576#32) 1#32) 576#32)
      = BitVec.ofNat 32 ((k.val + 575 - 4096) / 576) := by
  decide +kernel

/-- The first row of a tile's window, as the kernel computes it: the block's first row and 576 for every tile before it,
    but never past row 3520, where the last whole window starts. -/
theorem base_word : ∀ a : Fin 513, ∀ t : Fin 8,
    Scalar.minsi (Scalar.addi (BitVec.ofNat 32 (8 * a.val)) (Scalar.muli (Scf.iv 0#32 1#32 t.val) 576#32)) 3520#32
      = BitVec.ofNat 32 (min (8 * a.val + 576 * t.val) 3520) := by
  decide +kernel

/-- The first row a tile is answerable for, as the kernel computes it. -/
theorem first_word : ∀ a : Fin 513, ∀ t : Fin 8,
    Scalar.addi (BitVec.ofNat 32 (8 * a.val)) (Scalar.muli (Scf.iv 0#32 1#32 t.val) 576#32)
      = BitVec.ofNat 32 (8 * a.val + 576 * t.val) := by
  decide +kernel

end Cert.Words
-- ==== Proof.Counts.lean ====
module

public import proofs.«01_k».proof.Proof.Words
public import Idealize.ShloMosaic.Lib.StableHlo.Predicate
public import Idealize.ShloMosaic.Lib.Affine

@[expose] public section

set_option maxRecDepth 16384

noncomputable section

namespace Cert.Words

open Idealize.ShloMosaic Idealize.ShloMosaic.StableHlo.Predicate Finset

/-- A word that counts: a natural below 2³² is the word's value. -/
theorem eq_ofNat {x : BitVec 32} {n : Nat} (h : x.toNat = n) : x = BitVec.ofNat 32 n := by
  subst h; simp

variable {n k : Nat}

/-- How many of the rows' batch words are below a given word. -/
def below (b : IVec ⟨1, ![k]⟩ 32) (v : BitVec 32) : Nat :=
  (univ.filter fun q : Fin k => (b (Shape.Idx.ofFin q)).toInt < v.toInt).card

/-- How many of the rows' batch words are at most a given word. -/
def upto (b : IVec ⟨1, ![k]⟩ 32) (v : BitVec 32) : Nat :=
  (univ.filter fun q : Fin k => (b (Shape.Idx.ofFin q)).toInt ≤ v.toInt).card

theorem below_le (b : IVec ⟨1, ![k]⟩ 32) (v : BitVec 32) : below b v ≤ k :=
  le_trans (card_le_univ _) (by simp)
theorem upto_le (b : IVec ⟨1, ![k]⟩ 32) (v : BitVec 32) : upto b v ≤ k :=
  le_trans (card_le_univ _) (by simp)

theorem ofFin_eq (j : (⟨1, ![n]⟩ : Shape).Idx) : Shape.Idx.ofFin (j 0) = j := by
  funext a
  have ha : a = 0 := Subsingleton.elim _ _
  subst ha; rfl

/-- Summing the widened bits of "row `q`'s word is below `v p`" over the rows counts those rows. -/
theorem reduce_below (hk : k < 2 ^ 32) (h1 h2 h3 h4 hw) (h5 : (⟨2, ![n, k]⟩ : Shape).ReducesTo [1] ⟨1, ![n]⟩)
    (hu : 0 < (⟨0, ![]⟩ : Shape).numel) (b : IVec ⟨1, ![k]⟩ 32) (v : IVec ⟨1, ![n]⟩ 32) (j : (⟨1, ![n]⟩ : Shape).Idx) :
    Host.reduce IntOp.addi
      (extui 32 (cmpi .slt (broadcastInDim ⟨2, ![n, k]⟩ ![0, 1] h1 (broadcastInDim ⟨2, ![1, k]⟩ ![1] h2 b))
        (broadcastInDim ⟨2, ![n, k]⟩ ![0, 1] h3 (broadcastInDim ⟨2, ![n, 1]⟩ ![0] h4 v))) hw)
      (constantI ⟨0, ![]⟩ 32 0#32) h5 hu j = BitVec.ofNat 32 (below b (v j)) := by
  apply eq_ofNat
  rw [toNat_reduce_count_cols hk]
  unfold below
  congr 1
  ext q
  simp only [mem_filter, mem_univ, true_and]
  show IntOp.cmpi .slt _ _ = 1#1 ↔ _
  refine Iff.trans (iff_of_eq (congrArg₂ (fun x y => IntOp.cmpi .slt x y = 1#1) (bcast_cols h2 h1 b (j 0) q) ((bcast_rows h4 h3 v (j 0) q).trans (congrArg v (ofFin_eq j))))) ?_
  rw [IntOp.cmpi_slt]

/-- Summing the widened bits of "row `q`'s word is at most `v p`" over the rows counts those rows. -/
theorem reduce_upto (hk : k < 2 ^ 32) (h1 h2 h3 h4 hw) (h5 : (⟨2, ![n, k]⟩ : Shape).ReducesTo [1] ⟨1, ![n]⟩)
    (hu : 0 < (⟨0, ![]⟩ : Shape).numel) (b : IVec ⟨1, ![k]⟩ 32) (v : IVec ⟨1, ![n]⟩ 32) (j : (⟨1, ![n]⟩ : Shape).Idx) :
    Host.reduce IntOp.addi
      (extui 32 (cmpi .sle (broadcastInDim ⟨2, ![n, k]⟩ ![0, 1] h1 (broadcastInDim ⟨2, ![1, k]⟩ ![1] h2 b))
        (broadcastInDim ⟨2, ![n, k]⟩ ![0, 1] h3 (broadcastInDim ⟨2, ![n, 1]⟩ ![0] h4 v))) hw)
      (constantI ⟨0, ![]⟩ 32 0#32) h5 hu j = BitVec.ofNat 32 (upto b (v j)) := by
  apply eq_ofNat
  rw [toNat_reduce_count_cols hk]
  unfold upto
  congr 1
  ext q
  simp only [mem_filter, mem_univ, true_and]
  show IntOp.cmpi .sle _ _ = 1#1 ↔ _
  refine Iff.trans (iff_of_eq (congrArg₂ (fun x y => IntOp.cmpi .sle x y = 1#1) (bcast_cols h2 h1 b (j 0) q) ((bcast_rows h4 h3 v (j 0) q).trans (congrArg v (ofFin_eq j))))) ?_
  rw [IntOp.cmpi_sle]

/-- The first row a block looks at, as a number: the rows that sort before the block, rounded down to a multiple of 8. -/
def startOf (lo : Nat) : Nat := lo / 8 * 8

/-- The number of tiles a block looks at, as a number. -/
def tilesOf (lo hi : Nat) : Nat := (hi + 575 - startOf lo) / 576

theorem startOf_word {lo : Nat} (h : lo ≤ 4096) :
    IntOp.muli (floorDiv (BitVec.ofNat 32 lo) 8#32) 8#32 = BitVec.ofNat 32 (startOf lo) :=
  start_word ⟨lo, by omega⟩

theorem tilesOf_word {lo hi : Nat} (h : lo ≤ 4096) (h' : hi ≤ 4096) :
    IntOp.maxsi 0#32 (floorDiv (IntOp.subi (IntOp.addi (IntOp.subi (BitVec.ofNat 32 hi) (BitVec.ofNat 32 (startOf lo))) 576#32) 1#32) 576#32)
      = BitVec.ofNat 32 (tilesOf lo hi) := by
  have hs : startOf lo ≤ 4096 := by unfold startOf; omega
  have e : IntOp.subi (BitVec.ofNat 32 hi) (BitVec.ofNat 32 (startOf lo)) = BitVec.ofNat 32 (hi + 4096 - startOf lo) - 4096#32 := by
    show BitVec.ofNat 32 hi - BitVec.ofNat 32 (startOf lo) = _
    apply BitVec.eq_of_toNat_eq
    simp only [BitVec.toNat_sub, BitVec.toNat_ofNat]
    omega
  have h1 := tiles_word ⟨hi + 4096 - startOf lo, by omega⟩
  have h2 : (hi + 4096 - startOf lo + 575 - 4096) / 576 = tilesOf lo hi := by
    unfold tilesOf
    rw [show hi + 4096 - startOf lo + 575 - 4096 = hi + 575 - startOf lo by omega]
  rw [e]
  rw [← h2]
  exact h1

/-- At most eight tiles cover the rows. -/
theorem tilesOf_le {lo hi : Nat} (h' : hi ≤ 4096) : tilesOf lo hi ≤ 8 := by
  unfold tilesOf; omega

theorem startOf_eq (lo : Nat) : startOf lo = 8 * (lo / 8) := by unfold startOf; omega

end Cert.Words
-- ==== Proof.Tables.lean ====
module

public import proofs.«01_k».proof.Proof.Gen.KernelIdeal.Frame
public import proofs.«01_k».proof.Proof.Words
public import proofs.«01_k».proof.Proof.Counts

@[expose] public section

set_option maxRecDepth 16384

noncomputable section

namespace Cert.KernelIdeal.Proof

open Idealize.ShloMosaic Idealize.ShloMosaic.TcCoe
open Idealize.SL.Sem
open Cert.Words
variable {F : FTy → Type} [FloatOps F]
variable (m : (ℓ : Loc nD τ sig) → Buf (Elt F) ℓ)

/-- The rows that sort before block `p`. -/
def lo (c : Dev nD) (p : Fin 16) : Nat :=
  below (m ((c.tc : Thread nD τ).loc main_arg2)) (Host.slice S16 ![0] ![512] (m ((c.tc : Thread nD τ).loc main_arg5)) Gen.slicesBy_S8192_S16_0s512 (Shape.Idx.ofFin p))

/-- The rows that do not sort after block `p`. -/
def hi (c : Dev nD) (p : Fin 16) : Nat :=
  upto (m ((c.tc : Thread nD τ).loc main_arg2)) (Host.slice S16 ![511] ![512] (m ((c.tc : Thread nD τ).loc main_arg5)) Gen.slicesBy_S8192_S16_511s512 (Shape.Idx.ofFin p))

/-- The first row block `p` looks at. -/
def start (c : Dev nD) (p : Fin 16) : Nat := startOf (lo m c p)
/-- The number of tiles block `p` looks at. -/
def tiles (c : Dev nD) (p : Fin 16) : Nat := tilesOf (lo m c p) (hi m c p)

/-- What the first table holds when the kernel is entered. -/
theorem V_start (c : Dev nD) (p : Fin 16) : Gen.V m c main_v18 (Shape.Idx.ofFin p) = BitVec.ofNat 32 (start m c p) := by
  unfold Gen.V
  after_reads_at
  rw [reduce_below (by norm_num)]
  exact startOf_word (below_le _ _)

/-- What the second table holds when the kernel is entered. -/
theorem V_tiles (c : Dev nD) (p : Fin 16) : Gen.V m c main_v26 (Shape.Idx.ofFin p) = BitVec.ofNat 32 (tiles m c p) := by
  unfold Gen.V
  after_reads_at
  rw [reduce_below (by norm_num), reduce_upto (by norm_num)]
  have e := startOf_word (lo := lo m c p) (below_le _ _)
  have e2 := tilesOf_word (lo := lo m c p) (hi := hi m c p) (below_le _ _) (upto_le _ _)
  rw [← e] at e2
  exact e2

end Cert.KernelIdeal.Proof
-- ==== Proof.Checks.lean ====
module

public import proofs.«01_k».proof.Proof.Tables
public import Idealize.ShloMosaic.Lib.LoopRemainder

@[expose] public section

set_option maxRecDepth 16384

noncomputable section

namespace Cert.KernelIdeal.Proof

open Idealize.ShloMosaic Idealize.ShloMosaic.TcCoe
open Idealize.SL.Sem
open Cert.Words
variable {F : FTy → Type} [FloatOps F]
variable (m : (ℓ : Loc nD τ sig) → Buf (Elt F) ℓ)

/-- The main loops make one trip a tile. -/
theorem trips1 : ∀ T : Fin 9, (k0_t1_loop (BitVec.ofNat 32 T.val)).trips = T.val := by decide +kernel
/-- The first loop's operands give it a meaning. -/
theorem ok1 : ∀ T : Fin 9, (k0_t1_loop (BitVec.ofNat 32 T.val)).OK := by decide +kernel
/-- The remainder loops' operands give them a meaning. -/
theorem ok2 : ∀ T : Fin 9, (k0_t2_loop (BitVec.ofNat 32 T.val)).OK := by decide +kernel
/-- The remainder loops make no trip. -/
theorem trips2 (v : BitVec 32) : (k0_t2_loop v).trips = 0 := Idealize.ShloMosaic.Scf.rem_trips _ _

/-- The first row of tile `t`'s window, for a block that starts at row `8 * a`. -/
def base (s t : Nat) : Nat := min (s + 576 * t) 3520

/-- The window of a tile starts where `base` says. -/
theorem mult_eq (a : Fin 513) (T : Fin 9) (t : Fin (k0_t1_loop (BitVec.ofNat 32 T.val)).trips) :
    k0_mult1 (BitVec.ofNat 32 (8 * a.val)) (BitVec.ofNat 32 T.val) t = BitVec.ofNat 32 (base (8 * a.val) t.val) := by
  have ht : t.val < 8 := by have := t.isLt; have := T.isLt; have := trips1 T; omega
  exact base_word a ⟨t.val, ht⟩

theorem mult_toNat (a : Fin 513) (T : Fin 9) (t : Fin (k0_t1_loop (BitVec.ofNat 32 T.val)).trips) :
    (k0_mult1 (BitVec.ofNat 32 (8 * a.val)) (BitVec.ofNat 32 T.val) t).toNat = base (8 * a.val) t.val := by
  rw [mult_eq, BitVec.toNat_ofNat]
  unfold base
  omega

/-- Every side condition of a block's body holds when the block starts at a multiple of 8 and has at most eight tiles. -/
theorem chk (a : Fin 513) (T : Fin 9) : k0_chk1 (BitVec.ofNat 32 (8 * a.val)) (BitVec.ofNat 32 T.val) := by
  have hm : ∀ t, 8 ∣ (k0_mult1 (BitVec.ofNat 32 (8 * a.val)) (BitVec.ofNat 32 T.val) t).toNat := by
    intro t; rw [mult_toNat]; unfold base; omega
  have hb : ∀ t, (k0_mult1 (BitVec.ofNat 32 (8 * a.val)) (BitVec.ofNat 32 T.val) t).toNat + 576 ≤ 4096 := by
    intro t; rw [mult_toNat]; unfold base; omega
  have no : ∀ (t : Fin (k0_t2_loop (BitVec.ofNat 32 T.val)).trips), False := fun t =>
    Nat.not_lt_zero _ (lt_of_lt_of_eq t.isLt (trips2 _))
  refine ⟨ok1 T, hm, ?_, ?_, ?_, ?_, ok2 T, fun t => (no t).elim, fun t => (no t).elim, fun t => (no t).elim, fun t => (no t).elim,
    fun t => (no t).elim, ok1 T, hm, ?_, ok2 T, fun t => (no t).elim, fun t => (no t).elim⟩
  · intro t x; match x with
      | 0 => exact hb t
      | 1 => show 0 + 1 ≤ 3; omega
  · intro t x; match x with
      | 0 => exact hb t
      | 1 => show 1 + 1 ≤ 3; omega
  · intro t x; match x with
      | 0 => exact hb t
      | 1 => show 2 + 1 ≤ 3; omega
  · intro t x; match x with
      | 0 => exact hb t
      | 1 => show 0 + 1 ≤ 1; omega
  · intro t x; match x with
      | 0 => exact hb t
      | 1 => show 0 + 512 ≤ 512; omega

/-- Grid point `i`'s block number. -/
def blk (i : grid0.Coords) : Fin 16 := i 0

theorem off1_val (i : grid0.Coords) : k0_off1 i 0 = (blk i).val := by
  show (BitVec.ofNat 32 (i 0).val).toNat = (i 0).val
  have h : (i 0).val < 16 := (i 0).isLt
  rw [BitVec.toNat_ofNat]; omega

/-- The first table's word, as a block reads it. -/
theorem read0 (i : grid0.Coords) (x : S1.Idx) :
    Gen.tbM0_0.view.readAt (Elt F) (Rect.unit (s := S16) (k0_off1 i) S1.size (Gen.k0_off1_inb i)).toLoadRect (Gen.tbl m 0) x
      = BitVec.ofNat 32 (start m 0 (blk i)) := by
  refine Eq.trans ?_ (V_start m 0 (blk i))
  refine Eq.trans (b := Gen.tbl m 0 ((Rect.unit (s := S16) (k0_off1 i) S1.size (Gen.k0_off1_inb i)).toLoadRect.idx x)) rfl ?_
  refine congrArg (Gen.tbl m 0) ?_
  funext a
  have ha : a = 0 := Subsingleton.elim _ _
  subst ha
  apply Fin.ext
  show k0_off1 i 0 + 1 * (x 0).val = (blk i).val
  have : (x 0).val < 1 := (x 0).isLt
  rw [off1_val]; omega

/-- The second table's word, as a block reads it. -/
theorem read1 (i : grid0.Coords) (x : S1.Idx) :
    Gen.tbM0_1.view.readAt (Elt F) (Rect.unit (s := S16) (k0_off1 i) S1.size (Gen.k0_off1_inb i)).toLoadRect (Gen.tbl m 1) x
      = BitVec.ofNat 32 (tiles m 0 (blk i)) := by
  refine Eq.trans ?_ (V_tiles m 0 (blk i))
  refine Eq.trans (b := Gen.tbl m 1 ((Rect.unit (s := S16) (k0_off1 i) S1.size (Gen.k0_off1_inb i)).toLoadRect.idx x)) rfl ?_
  refine congrArg (Gen.tbl m 1) ?_
  funext a
  have ha : a = 0 := Subsingleton.elim _ _
  subst ha
  apply Fin.ext
  show k0_off1 i 0 + 1 * (x 0).val = (blk i).val
  have : (x 0).val < 1 := (x 0).isLt
  rw [off1_val]; omega

/-- A block's first row is a multiple of 8, at most 4096. -/
theorem start_mul (c : Dev nD) (p : Fin 16) : ∃ a : Fin 513, start m c p = 8 * a.val := by
  have h : lo m c p ≤ 4096 := below_le _ _
  exact ⟨⟨lo m c p / 8, by omega⟩, startOf_eq _⟩

/-- A block looks at no more than eight tiles. -/
theorem tiles_le (c : Dev nD) (p : Fin 16) : tiles m c p ≤ 8 := tilesOf_le (upto_le _ _)

/-- The side conditions of every block's body hold of the words it reads. -/
theorem hyps : Gen.Hyps m trivial := by
  intro c t
  rw [read0, read1]
  obtain ⟨a, ha⟩ := start_mul m 0 (blk (grid0.coords t))
  rw [ha]
  exact chk a ⟨tiles m 0 (blk (grid0.coords t)), by have := tiles_le m 0 (blk (grid0.coords t)); omega⟩

end Cert.KernelIdeal.Proof
-- ==== Proof.Frames.lean ====
module

public import proofs.«01_k».proof.Defs
public import proofs.«01_k».proof.Proof.Checks
public import proofs.«01_k».proof.Proof.KernelChecks
public import proofs.«01_k».proof.Proof.Gen.ReferenceIdeal.Run
public import Idealize.ShloMosaic.Adequacy
public import Idealize.ShloMosaic.Init

@[expose] public section

noncomputable section

namespace Cert.Proof

open Idealize.ShloMosaic Idealize.SL.Sem

/-- The kernel runs, ends with its arguments unchanged, and leaves every counter at zero. -/
theorem frame_kernel : Cert.quiescent_Kernel (hKernel := Cert.Kernel.Gen.facts) := fun m ρ _ =>
  Cert.Kernel.Gen.frame (F := Bits) m ρ trivial (Cert.Kernel.Proof.hyps m)

/-- So does the kernel with exact arithmetic. -/
theorem frame_ideal : Cert.quiescent_KernelIdeal (hKernelIdeal := Cert.KernelIdeal.Gen.facts) := fun m ρ _ =>
  Cert.KernelIdeal.Gen.frame (F := Ideal) m ρ trivial (Cert.KernelIdeal.Proof.hyps m)

/-- So does the reference with exact arithmetic. -/
theorem frame_reference : Cert.quiescent_ReferenceIdeal (hReferenceIdeal := Cert.ReferenceIdeal.Gen.facts) := fun m ρ _ =>
  (θ_run Cert.ReferenceIdeal.defs _ _).mono (fun r h => ⟨fun c => (h c).2.2.2,
      Idealize.ShloMosaic.sem_eq_zero_of_no_sems (by decide) r.2⟩)
    (Cert.ReferenceIdeal.Value.run (F := Ideal) m ρ)

end Cert.Proof
-- ==== Proof.Select.lean ====
module

public import Idealize.ShloMosaic.PureOps.Ideal

@[expose] public section

noncomputable section

/-! # Keeping the three nearest

One query keeps three places, each a distance and a row's word. A candidate is put in by passing it along the places: at
each it stays if it is strictly nearer than what is there, and what it displaces is passed on. What is passed out of the
last place is the farthest of the four. -/

namespace Cert.Select

/-- Three places, each a distance and a word. -/
abbrev Slots := EReal × BitVec 32 × EReal × BitVec 32 × EReal × BitVec 32

/-- Put a candidate in. -/
def ins (r : Slots) (c : EReal) (i : BitVec 32) : Slots :=
  (min c r.1, if c < r.1 then i else r.2.1,
    min (max c r.1) r.2.2.1, if max c r.1 < r.2.2.1 then (if c < r.1 then r.2.1 else i) else r.2.2.2.1,
    min (max (max c r.1) r.2.2.1) r.2.2.2.2.1,
    if max (max c r.1) r.2.2.1 < r.2.2.2.2.1 then
      (if max c r.1 < r.2.2.1 then r.2.2.2.1 else (if c < r.1 then r.2.1 else i)) else r.2.2.2.2.2)

/-- What the three places hold, in no order. -/
def items (r : Slots) : Multiset (EReal × BitVec 32) :=
  (r.1, r.2.1) ::ₘ (r.2.2.1, r.2.2.2.1) ::ₘ (r.2.2.2.2.1, r.2.2.2.2.2) ::ₘ 0

theorem items_card (r : Slots) : (items r).card = 3 := by simp [items]

/-- Putting a candidate in keeps three of the four items and drops one that no other is farther than. -/
theorem items_ins (r : Slots) (c : EReal) (i : BitVec 32) :
    ∃ e : EReal × BitVec 32, e ::ₘ items (ins r c i) = (c, i) ::ₘ items r ∧ ∀ x ∈ items (ins r c i), x.1 ≤ e.1 := by
  obtain ⟨v0, i0, v1, i1, v2, i2⟩ := r
  have one : ∀ (a v : EReal) (x y : BitVec 32), ∃ b : EReal × BitVec 32,
      b = (max a v, if a < v then y else x) ∧ min a v ≤ b.1 ∧
      ∀ M : Multiset (EReal × BitVec 32), b ::ₘ (min a v, if a < v then x else y) ::ₘ M = (a, x) ::ₘ (v, y) ::ₘ M := by
    intro a v x y
    refine ⟨_, rfl, min_le_max, fun M => ?_⟩
    by_cases h : a < v
    · simp only [h, if_true, max_eq_right h.le, min_eq_left h.le]
      exact Multiset.cons_swap _ _ _
    · simp only [h, if_false, max_eq_left (not_lt.mp h), min_eq_right (not_lt.mp h)]
  obtain ⟨b0, e0, -, p0⟩ := one c v0 i i0
  obtain ⟨b1, e1, -, p1⟩ := one (max c v0) v1 (if c < v0 then i0 else i) i1
  obtain ⟨b2, e2, -, p2⟩ := one (max (max c v0) v1) v2 (if max c v0 < v1 then i1 else (if c < v0 then i0 else i)) i2
  refine ⟨b2, ?_, ?_⟩
  · unfold items ins
    dsimp only
    rw [Multiset.cons_swap b2, Multiset.cons_swap b2, p2, ← e1, Multiset.cons_swap _ b1, p1, ← e0, Multiset.cons_swap _ b0, p0] <;> rfl
  · intro x hx
    rw [e2]
    simp only [items, ins, Multiset.mem_cons, Multiset.notMem_zero, or_false] at hx
    rcases hx with rfl | rfl | rfl <;> dsimp only
    · exact le_trans (min_le_left _ _) (le_trans (le_max_left _ _) (le_trans (le_max_left _ _) (le_max_left _ _)))
    · exact le_trans (min_le_right _ _) (le_trans (le_max_right _ _) (le_max_left _ _))
    · exact le_trans (min_le_right _ _) (le_max_right _ _)

section Inv

variable {n : Nat} (d : Fin n → EReal) (w : Fin n → BitVec 32) (T : Finset (Fin n)) (τ : EReal)

/-- The places within `τ` hold exactly the rows of `P`, each with its distance. -/
def Inv (r : Slots) (P : Finset (Fin n)) : Prop :=
  (items r).filter (fun x => x.1 ≤ τ) = P.val.map fun s => (d s, w s)

variable {d w T τ}

/-- A candidate farther than `τ` changes nothing within `τ`. -/
theorem Inv.junk {r : Slots} {P : Finset (Fin n)} (h : Inv d w τ r P) {c : EReal} (hc : τ < c) (i : BitVec 32) :
    Inv d w τ (ins r c i) P := by
  classical
  obtain ⟨e, he, hm⟩ := items_ins r c i
  have hf := congrArg (Multiset.filter (fun x : EReal × BitVec 32 => x.1 ≤ τ)) he
  rw [Multiset.filter_cons, Multiset.filter_cons, if_neg (not_le.mpr hc), zero_add, h] at hf
  by_cases hle : e.1 ≤ τ
  · exfalso
    have hall : ∀ x ∈ e ::ₘ items (ins r c i), x.1 ≤ τ := by
      intro x hx
      rcases Multiset.mem_cons.mp hx with rfl | hx
      · exact hle
      · exact le_trans (hm x hx) hle
    have := hall (c, i) (by rw [he]; exact Multiset.mem_cons_self _ _)
    exact absurd this (not_le.mpr hc)
  · rw [if_neg hle, zero_add] at hf
    exact hf

/-- A row of `T` not yet in is put in; no row of `T` is dropped, since `T` has three. -/
theorem Inv.good {r : Slots} {P : Finset (Fin n)} (h : Inv d w τ r P) {s : Fin n} (hs : s ∉ P) (hτ : d s ≤ τ)
    (hT : (insert s P).card ≤ 3) : Inv d w τ (ins r (d s) (w s)) (insert s P) := by
  classical
  obtain ⟨e, he, hm⟩ := items_ins r (d s) (w s)
  have hf := congrArg (Multiset.filter (fun x : EReal × BitVec 32 => x.1 ≤ τ)) he
  rw [Multiset.filter_cons, Multiset.filter_cons, if_pos hτ, h] at hf
  have hP : (insert s P).val.map (fun s => (d s, w s)) = {(d s, w s)} + P.val.map fun s => (d s, w s) := by
    rw [Finset.insert_val_of_notMem hs, Multiset.map_cons]; rfl
  rw [← hP] at hf
  by_cases hle : e.1 ≤ τ
  · exfalso
    have hall : Multiset.filter (fun x : EReal × BitVec 32 => x.1 ≤ τ) (items (ins r (d s) (w s))) = items (ins r (d s) (w s)) :=
      Multiset.filter_eq_self.mpr fun x hx => le_trans (hm x hx) hle
    rw [if_pos hle, hall] at hf
    have hc := congrArg Multiset.card hf
    simp only [Multiset.card_add, Multiset.card_singleton, items_card, Multiset.card_map, Finset.card_val] at hc
    omega
  · rw [if_neg hle, zero_add] at hf
    exact hf

/-- Before any candidate every place is farther than `τ`. -/
theorem Inv.init {r : Slots} (h : ∀ x ∈ items r, τ < x.1) : Inv d w τ r ∅ := by
  unfold Inv
  rw [Multiset.filter_eq_nil.mpr fun x hx => not_le.mpr (h x hx)]
  rfl

/-- When three rows are in, they are all the places hold. -/
theorem Inv.final {r : Slots} {P : Finset (Fin n)} (h : Inv d w τ r P) (hP : P.card = 3) :
    items r = P.val.map fun s => (d s, w s) := by
  have hc := congrArg Multiset.card h
  rw [Multiset.card_map, Finset.card_val, hP] at hc
  have : (items r).filter (fun x => x.1 ≤ τ) = items r :=
    Multiset.eq_of_le_of_card_le (Multiset.filter_le _ _) (by rw [hc, items_card])
  rw [← this]; exact h

end Inv

end Cert.Select
-- ==== Proof.Passes.lean ====
module

public import proofs.«01_k».proof.Proof.Select
public import Idealize.ShloMosaic.PureOps.Reduce

@[expose] public section

noncomputable section

/-! # Three passes over a tile

A tile offers rows with distances. A pass takes the nearest (the one of least row among equals), puts it in the three
places and strikes it out; three passes put in every row of the tile that belongs among the query's three. -/

namespace Cert.Select

open Idealize.ShloMosaic

variable {k n : Nat}

/-- The least of a tile's distances. -/
def least (D : Fin k → EReal) : EReal := (Finset.univ : Finset (Fin k)).fold min ⊤ D

/-- The least row word among the tile's rows at the least distance. -/
def first (li : Fin k → BitVec 32) (D : Fin k → EReal) : BitVec 32 :=
  (Finset.univ : Finset (Fin k)).fold IntOp.minsi 2147483647#32 fun j => if D j = least D then li j else 1073741824#32

/-- Strike that row out: its distance becomes `b`. -/
def strike (b : EReal) (li : Fin k → BitVec 32) (D : Fin k → EReal) : Fin k → EReal :=
  fun j => if li j = first li D then b else D j

/-- One pass puts the nearest row in. -/
def pass (li : Fin k → BitVec 32) (D : Fin k → EReal) (r : Slots) : Slots := ins r (least D) (first li D)

/-- Three passes. -/
def pass3 (b : EReal) (li : Fin k → BitVec 32) (D : Fin k → EReal) (r : Slots) : Slots :=
  pass li (strike b li (strike b li D)) (pass li (strike b li D) (pass li D r))

theorem least_le (D : Fin k → EReal) (j : Fin k) : least D ≤ D j :=
  (Finset.le_fold_min (least D)).1 (le_refl (least D)) |>.2 j (Finset.mem_univ j)

/-- The least distance is infinite or some row's. -/
theorem least_mem (D : Fin k → EReal) : least D = ⊤ ∨ ∃ j, D j = least D := by
  have : ∀ S : Finset (Fin k), S.fold min ⊤ D = ⊤ ∨ ∃ j, D j = S.fold min ⊤ D := by
    intro S
    induction S using Finset.induction_on with
    | empty => exact Or.inl rfl
    | insert a S ha ih =>
      rw [Finset.fold_insert ha]
      rcases min_choice (D a) (S.fold min ⊤ D) with h | h
      · exact Or.inr ⟨a, h.symm⟩
      · rw [h]; exact ih
  exact this _

theorem minsi_choice (a b : BitVec 32) : (IntOp.minsi a b = a ∨ IntOp.minsi a b = b) ∧
    (IntOp.minsi a b).toInt ≤ a.toInt ∧ (IntOp.minsi a b).toInt ≤ b.toInt := by
  unfold IntOp.minsi
  by_cases h : a.slt b = true
  · rw [if_pos h]; exact ⟨Or.inl rfl, le_refl _, by have := (BitVec.slt_iff_toInt_lt).mp h; omega⟩
  · rw [if_neg h]
    have : ¬ a.toInt < b.toInt := fun e => h ((BitVec.slt_iff_toInt_lt).mpr e)
    exact ⟨Or.inr rfl, by omega, le_refl _⟩

/-- A signed minimum is the initial word or one of the words, and at most every one of them. -/
theorem minsi_fold (f : Fin k → BitVec 32) (S : Finset (Fin k)) (b : BitVec 32) :
    (S.fold IntOp.minsi b f = b ∨ ∃ j ∈ S, S.fold IntOp.minsi b f = f j) ∧
      ∀ j ∈ S, (S.fold IntOp.minsi b f).toInt ≤ (f j).toInt := by
  induction S using Finset.induction_on with
  | empty => exact ⟨Or.inl rfl, fun j h => absurd h (Finset.notMem_empty j)⟩
  | insert a S ha ih =>
    rw [Finset.fold_insert ha]
    obtain ⟨hc, h1, h2⟩ := minsi_choice (f a) (S.fold IntOp.minsi b f)
    refine ⟨?_, ?_⟩
    · rcases hc with h | h
      · exact Or.inr ⟨a, Finset.mem_insert_self _ _, h⟩
      · rw [h]
        rcases ih.1 with h' | ⟨j, hj, h'⟩
        · exact Or.inl h'
        · exact Or.inr ⟨j, Finset.mem_insert_of_mem hj, h'⟩
    · intro j hj
      rcases Finset.mem_insert.mp hj with rfl | hj
      · exact h1
      · exact le_trans h2 (ih.2 j hj)

section

variable {d : Fin n → EReal} {τ b : EReal} {s : Fin k → Fin n}

/-- A row's word. -/
abbrev word (s : Fin n) : BitVec 32 := BitVec.ofNat 32 s.val

theorem word_toInt (hn : n ≤ 1073741824) (s : Fin n) : (word s).toInt = s.val := by
  have := s.isLt
  rw [BitVec.toInt_eq_toNat_cond, BitVec.toNat_ofNat, Nat.mod_eq_of_lt (by omega), if_pos (by omega)]

theorem word_inj (hn : n ≤ 1073741824) {s t : Fin n} (h : word s = word t) : s = t := by
  have := congrArg BitVec.toInt h
  rw [word_toInt hn, word_toInt hn] at this
  exact Fin.ext (by omega)

/-- A tile's distances `D` show the rows of `U`, all within `τ`, and everything else beyond `τ`. -/
structure Shows (d : Fin n → EReal) (τ : EReal) (s : Fin k → Fin n) (D : Fin k → EReal) (U : Finset (Fin n)) : Prop where
  mem : ∀ j, s j ∈ U → D j = d (s j)
  out : ∀ j, s j ∉ U → τ < D j
  img : ∀ u ∈ U, ∃ j, s j = u
  le : ∀ u ∈ U, d u ≤ τ

/-- If the tile shows nothing a pass puts in something beyond `τ`, and the tile still shows nothing. -/
theorem Shows.empty {D : Fin k → EReal} (h : Shows d τ s D ∅) (hb : τ < b) (li : Fin k → BitVec 32) :
    τ < least D ∧ Shows d τ s (strike b li D) ∅ := by
  refine ⟨?_, ⟨fun j hj => absurd hj (Finset.notMem_empty _), fun j hj => ?_, fun u hu => absurd hu (Finset.notMem_empty _),
    fun u hu => absurd hu (Finset.notMem_empty _)⟩⟩
  · rcases least_mem D with e | ⟨j, e⟩
    · rw [e]; exact lt_of_lt_of_le hb le_top
    · rw [← e]; exact h.out j (Finset.notMem_empty _)
  · unfold strike; split
    · exact hb
    · exact h.out j hj

/-- Otherwise it puts in one of the rows shown, and the tile then shows the others. -/
theorem Shows.one {D : Fin k → EReal} {U : Finset (Fin n)} (h : Shows d τ s D U) (hb : τ < b) (hn : n ≤ 1073741824)
    (hU : U.Nonempty) :
    ∃ u ∈ U, least D = d u ∧ first (fun j => word (s j)) D = word u ∧
      Shows d τ s (strike b (fun j => word (s j)) D) (U.erase u) := by
  classical
  obtain ⟨u0, hu0⟩ := hU
  obtain ⟨j0, hj0⟩ := h.img u0 hu0
  have hle : least D ≤ τ := by
    refine le_trans (least_le D j0) ?_
    rw [h.mem j0 (hj0 ▸ hu0)]; exact h.le _ (hj0 ▸ hu0)
  obtain ⟨j1, hj1⟩ : ∃ j, D j = least D := by
    rcases least_mem D with e | e
    · exact absurd (lt_of_lt_of_le hb le_top) (by rw [← e]; exact not_lt.mpr hle)
    · exact e
  obtain ⟨hc, hm⟩ := minsi_fold (fun j => if D j = least D then word (s j) else 1073741824#32) Finset.univ 2147483647#32
  have h30 : (first (fun j => word (s j)) D).toInt < 1073741824 := by
    have e := hm j1 (Finset.mem_univ _)
    rw [if_pos hj1, word_toInt hn] at e
    have := (s j1).isLt
    exact lt_of_le_of_lt e (by omega)
  have hex : ∃ j, D j = least D ∧ first (fun j => word (s j)) D = word (s j) := by
    rcases hc with e | ⟨j, -, e⟩
    · exfalso
      have e' := congrArg BitVec.toInt e
      have : (2147483647#32 : BitVec 32).toInt = 2147483647 := by decide
      rw [this] at e'
      unfold first at h30; dsimp only at h30 e'; omega
    · by_cases hd : D j = least D
      · rw [if_pos hd] at e; exact ⟨j, hd, e⟩
      · exfalso
        rw [if_neg hd] at e
        have e' := congrArg BitVec.toInt e
        have : (1073741824#32 : BitVec 32).toInt = 1073741824 := by decide
        rw [this] at e'
        unfold first at h30; dsimp only at h30 e'; omega
  obtain ⟨j, hd, hf⟩ := hex
  have hj : s j ∈ U := by
    by_contra hj
    exact absurd (h.out j hj) (by rw [hd]; exact not_lt.mpr hle)
  refine ⟨s j, hj, by rw [← hd, h.mem j hj], hf, ⟨fun i hi => ?_, fun i hi => ?_, fun u hu => ?_, fun u hu => ?_⟩⟩
  · unfold strike
    rw [hf, if_neg fun e => (Finset.mem_erase.mp hi).1 (word_inj hn e)]
    exact h.mem i (Finset.mem_erase.mp hi).2
  · unfold strike
    split
    · exact hb
    · rename_i hne
      refine h.out i fun hi' => hi (Finset.mem_erase.mpr ⟨fun e => hne ?_, hi'⟩)
      exact (congrArg word e).trans hf.symm
  · exact h.img u (Finset.mem_erase.mp hu).2
  · exact h.le u (Finset.mem_erase.mp hu).2

/-- A pass moves one row of those shown into the places, if there is one. -/
theorem pass_step {D : Fin k → EReal} {r : Slots} {S U : Finset (Fin n)} (h : Shows d τ s D U) (hb : τ < b) (hn : n ≤ 1073741824)
    (hr : Inv d word τ r S) (hd : Disjoint S U) (hc : (S ∪ U).card ≤ 3) :
    ∃ S' U' : Finset (Fin n), S' ∪ U' = S ∪ U ∧ Disjoint S' U' ∧ U'.card ≤ U.card - 1 ∧
      Shows d τ s (strike b (fun j => word (s j)) D) U' ∧ Inv d word τ (pass (fun j => word (s j)) D r) S' := by
  classical
  rcases U.eq_empty_or_nonempty with rfl | hU
  · obtain ⟨h1, h2⟩ := h.empty hb (fun j => word (s j))
    exact ⟨S, ∅, rfl, hd, by simp, h2, hr.junk h1 _⟩
  · obtain ⟨u, hu, e1, e2, h2⟩ := h.one hb hn hU
    have huS : u ∉ S := fun hs => (Finset.disjoint_left.mp hd) hs hu
    have hun : insert u S ∪ U.erase u = S ∪ U := by
      ext x; simp only [Finset.mem_union, Finset.mem_insert, Finset.mem_erase]
      by_cases hx : x = u
      · subst hx; simp [hu]
      · simp [hx]
    refine ⟨insert u S, U.erase u, hun, ?_, by rw [Finset.card_erase_of_mem hu], h2, ?_⟩
    · rw [Finset.disjoint_left] at hd ⊢
      intro x hx hx'
      rcases Finset.mem_insert.mp hx with rfl | hx
      · exact (Finset.mem_erase.mp hx').1 rfl
      · exact hd hx (Finset.mem_erase.mp hx').2
    · unfold pass
      rw [e1, e2]
      exact hr.good huS (h.le u hu) (le_trans (Finset.card_le_card (by rw [← hun]; exact Finset.subset_union_left)) hc)

/-- Three passes put in every row shown. -/
theorem pass3_step {D : Fin k → EReal} {r : Slots} {S U : Finset (Fin n)} (h : Shows d τ s D U) (hb : τ < b) (hn : n ≤ 1073741824)
    (hr : Inv d word τ r S) (hd : Disjoint S U) (hc : (S ∪ U).card ≤ 3) :
    Inv d word τ (pass3 b (fun j => word (s j)) D r) (S ∪ U) := by
  classical
  obtain ⟨S1, U1, e1, d1, c1, h1, r1⟩ := pass_step h hb hn hr hd hc
  obtain ⟨S2, U2, e2, d2, c2, h2, r2⟩ := pass_step h1 hb hn r1 d1 (e1 ▸ hc)
  obtain ⟨S3, U3, e3, d3, c3, h3, r3⟩ := pass_step h2 hb hn r2 d2 (e2 ▸ e1 ▸ hc)
  have hU : U.card ≤ 3 := le_trans (Finset.card_le_card Finset.subset_union_right) hc
  have h0 : U3 = ∅ := Finset.card_eq_zero.mp (by omega)
  subst h0
  rw [Finset.union_empty] at e3
  rw [e3, e2, e1] at r3
  exact r3

end

end Cert.Select
-- ==== Proof.Lanes.lean ====
module

public import proofs.«01_k».proof.Proof.Passes
public import proofs.«01_k».proof.Proof.Checks
public import Idealize.ShloMosaic.Lib.Pointwise

@[expose] public section

set_option maxRecDepth 16384

noncomputable section

/-! # One query's lane of the first loop

The first loop carries six rows of 512 lanes. Read at one lane, a trip is three passes over the tile's column of that lane. -/

namespace Cert.KernelIdeal.Proof

open Idealize.ShloMosaic Idealize.ShloMosaic.TcCoe
open Idealize.SL.Sem
open Cert.KernelIdeal.Gen Cert.Select

/-- A column of a tile. -/
abbrev col {α : Type} (D : S576x512.Idx → α) (q : Fin 512) : Fin 576 → α := fun k => D (ix2 k q)

/-- The struck-out distance. -/
def dead : EReal := FloatOps.ofBits (F := Ideal) .f32 0x7F61B1E6#32

/-- The column minimum of a tile at a lane. -/
theorem redMin (D : FVec Ideal S576x512 .f32) (j : S512.Idx) :
    multiReduction .minimumf [0] S512 D 0x7F800000#32 reduces_S576x512_S512 (.inl rfl) rfl j = least (col D (j 0)) := by
  simp only [pointwise]
  unfold least col
  rfl

/-- The least row word at the column minimum, at a lane. -/
theorem redIdx (D : FVec Ideal S576x512 .f32) (li : IVec S576x512 32) (m : FVec Ideal S512 .f32) (j : S512.Idx)
    (hm : m j = least (col D (j 0))) :
    multiReductionI .minsi [0] S512 (select (cmpf .oeq D (broadcastTo S576x512 (shapeCast S1x512 m shapeCasts_S512_S1x512) broadcasts_S1x512_S576x512)) li
      (broadcast S576x512 1073741824#32)) 2147483647#32 reduces_S576x512_S512 rfl j = first (col li (j 0)) (col D (j 0)) := by
  simp only [pointwise]
  refine (congrArg (fun z => Finset.fold IntOp.minsi 2147483647#32
    (fun k : Fin 576 => if D (ix2 k (j 0)) = z then li (ix2 k (j 0)) else 1073741824#32) Finset.univ)
    ((congrArg m ?_).trans hm) : _ = _)
  funext a
  match a with
  | ⟨0, _⟩ => rfl

section Trip

variable (a15 : FVec Ideal S512 .f32) (a16 : IVec S512 32) (a17 : FVec Ideal S512 .f32) (a18 : IVec S512 32)
  (a19 : FVec Ideal S512 .f32) (a20 : IVec S512 32) (v115 : FVec Ideal S576x512 .f32) (li : IVec S576x512 32) (v119 : IVec S576x512 1)
  (j : S512.Idx)

/-- The tile's column as the first pass sees it. -/
abbrev D0 (v115 : FVec Ideal S576x512 .f32) (v119 : IVec S576x512 1) (j : S512.Idx) : Fin 576 → EReal :=
  col (k0_pay5 v115 v119 k0_pay4) (j 0)

theorem e6 : k0_pay6 v115 v119 k0_pay4 j = least (D0 v115 v119 j) := redMin _ _
theorem e7 : k0_pay7 v115 li v119 k0_pay4 j = first (col li (j 0)) (D0 v115 v119 j) := redIdx _ _ _ _ (e6 _ _ _)

/-- Striking out on a whole tile is striking out on each column. -/
theorem striking (D : FVec Ideal S576x512 .f32) (m : IVec S512 32) (hm : m j = first (col li (j 0)) (col D (j 0))) :
    col (select (cmpi .eq li (broadcastTo S576x512 (shapeCast S1x512 m shapeCasts_S512_S1x512) broadcasts_S1x512_S576x512))
      (broadcast S576x512 (Scalar.ofBits (F := Ideal) .f32 0x7F61B1E6#32)) D) (j 0) = strike dead (col li (j 0)) (col D (j 0)) := by
  funext k
  unfold col strike
  simp only [pointwise]
  have e : m (ix1 (if h1 : 512 = 1 then 0 else j 0)) = first (col li (j 0)) (col D (j 0)) := by
    refine (congrArg m ?_).trans hm
    funext a
    match a with
    | ⟨0, _⟩ => rfl
  refine (congrArg (fun z => Scalar.select (IntOp.cmpi CmpIPredicate.eq (li (ix2 k (j 0))) z)
      (Ideal.ofBits FTy.f32 2137108966#32) (D (ix2 k (j 0)))) e).trans ?_
  generalize first (col li (j 0)) (col D (j 0)) = z
  by_cases h : li (ix2 k (j 0)) = z
  · rw [if_pos h, h]; unfold Scalar.select IntOp.cmpi; simp; rfl
  · rw [if_neg h]; unfold Scalar.select IntOp.cmpi; simp [beq_eq_false_iff_ne.mpr h]

theorem e18 : col (k0_pay18 v115 li v119 k0_pay4) (j 0) = strike dead (col li (j 0)) (D0 v115 v119 j) :=
  striking _ _ _ _ (e7 _ _ _ _)
theorem e19 : k0_pay19 v115 li v119 k0_pay4 j = least (strike dead (col li (j 0)) (D0 v115 v119 j)) := by
  rw [← e18]; exact redMin _ _
theorem e20 : k0_pay20 v115 li v119 k0_pay4 j = first (col li (j 0)) (strike dead (col li (j 0)) (D0 v115 v119 j)) := by
  rw [← e18]; exact redIdx _ _ _ _ (redMin _ _)

/-- The tile's column as the third pass sees it. -/
theorem e75 : col (k0_pay75 (k0_pay18 v115 li v119 k0_pay4) (k0_pay32 v115 li v119 k0_pay4)) (j 0)
    = strike dead (col li (j 0)) (strike dead (col li (j 0)) (D0 v115 v119 j)) := by
  rw [← e18]
  exact striking _ _ _ _ (by rw [e18]; exact e20 _ _ _ _)
theorem e76 : k0_pay76 (k0_pay18 v115 li v119 k0_pay4) (k0_pay32 v115 li v119 k0_pay4) j
    = least (strike dead (col li (j 0)) (strike dead (col li (j 0)) (D0 v115 v119 j))) := by
  rw [← e75]; exact redMin _ _
theorem e77 : k0_pay77 li (k0_pay18 v115 li v119 k0_pay4) (k0_pay32 v115 li v119 k0_pay4) j
    = first (col li (j 0)) (strike dead (col li (j 0)) (strike dead (col li (j 0)) (D0 v115 v119 j))) := by
  rw [← e75]; exact redIdx _ _ _ _ (redMin _ _)

/-- The six carried rows read at a lane. -/
abbrev lane (acc : FVec Ideal S512 .f32 × IVec S512 32 × FVec Ideal S512 .f32 × IVec S512 32 × FVec Ideal S512 .f32 × IVec S512 32)
    (j : S512.Idx) : Slots := (acc.1 j, acc.2.1 j, acc.2.2.1 j, acc.2.2.2.1 j, acc.2.2.2.2.1 j, acc.2.2.2.2.2 j)

/-- A select by a strict comparison, at a lane. -/
theorem sel_lt {α : Type} (x y : FVec Ideal S512 .f32) (a b : S512.Idx → α) :
    select (cmpf .olt x y) a b j = if (x j : EReal) < y j then a j else b j := by
  change Scalar.select (BitVec.ofBool (decide ((x j : EReal) < y j))) (a j) (b j) = _
  unfold Scalar.select
  by_cases h : (x j : EReal) < y j <;> simp [h]

/-- One insertion, as the kernel writes it on whole rows, is `ins` at each lane. -/
theorem insertion (A : FVec Ideal S512 .f32) (B : IVec S512 32) :
    ((minimumf A a15 j, select (cmpf .olt A a15) B a16 j,
      minimumf (maximumf A a15) a17 j,
      select (cmpf .olt (maximumf A a15) a17) (select (cmpf .olt A a15) a16 B) a18 j,
      minimumf (maximumf (maximumf A a15) a17) a19 j,
      select (cmpf .olt (maximumf (maximumf A a15) a17) a19)
        (select (cmpf .olt (maximumf A a15) a17) a18 (select (cmpf .olt A a15) a16 B)) a20 j) : Slots)
    = ins (lane (a15, a16, a17, a18, a19, a20) j) (A j) (B j) := by
  unfold ins lane
  simp only [sel_lt]
  rfl

/-- The six rows after the first insertion. -/
abbrev acc1 := (k0_pay9 a15 v115 v119 k0_pay4, k0_pay10 a15 a16 v115 li v119 k0_pay4,
      k0_pay14 a15 a17 v115 v119 k0_pay4, k0_pay15 a15 a16 a17 a18 v115 li v119 k0_pay4, k0_pay17 a15 a17 a19 v115 v119 k0_pay4,
      select (cmpf .olt (k0_pay16 a15 a17 v115 v119 k0_pay4) a19)
        (select (k0_pay13 a15 a17 v115 v119 k0_pay4) a18 (k0_pay12 a15 a16 v115 li v119 k0_pay4)) a20)

/-- The six rows after the second insertion. -/
abbrev acc2 := (k0_pay22 a15 v115 li v119 k0_pay4, k0_pay23 a15 a16 v115 li v119 k0_pay4,
      k0_pay27 a15 a17 v115 li v119 k0_pay4, k0_pay28 a15 a16 a17 a18 v115 li v119 k0_pay4, k0_pay30 a15 a17 a19 v115 li v119 k0_pay4,
      k0_pay31 a15 a16 a17 a18 a19 a20 v115 li v119 k0_pay4)

theorem lane1 : lane (acc1 a15 a16 a17 a18 a19 a20 v115 li v119) j
    = pass (col li (j 0)) (D0 v115 v119 j) (lane (a15, a16, a17, a18, a19, a20) j) := by
  unfold pass
  rw [← e6, ← e7]
  exact insertion a15 a16 a17 a18 a19 a20 j (k0_pay6 v115 v119 k0_pay4) (k0_pay7 v115 li v119 k0_pay4)

theorem lane2 : lane (acc2 a15 a16 a17 a18 a19 a20 v115 li v119) j
    = pass (col li (j 0)) (strike dead (col li (j 0)) (D0 v115 v119 j)) (lane (acc1 a15 a16 a17 a18 a19 a20 v115 li v119) j) := by
  unfold pass
  rw [← e19 v115 li v119 j, ← e20 v115 li v119 j]
  unfold acc2 acc1 k0_pay22 k0_pay23 k0_pay27 k0_pay28 k0_pay30 k0_pay31 k0_pay29 k0_pay26 k0_pay25 k0_pay24 k0_pay21
  dsimp only
  generalize select (cmpf .olt (k0_pay16 a15 a17 v115 v119 k0_pay4) a19)
        (select (k0_pay13 a15 a17 v115 v119 k0_pay4) a18 (k0_pay12 a15 a16 v115 li v119 k0_pay4)) a20 = f
  generalize k0_pay19 v115 li v119 k0_pay4 = A
  generalize k0_pay20 v115 li v119 k0_pay4 = B
  generalize k0_pay9 a15 v115 v119 k0_pay4 = a
  generalize k0_pay10 a15 a16 v115 li v119 k0_pay4 = b
  generalize k0_pay14 a15 a17 v115 v119 k0_pay4 = c
  generalize k0_pay15 a15 a16 a17 a18 v115 li v119 k0_pay4 = d
  generalize k0_pay17 a15 a17 a19 v115 v119 k0_pay4 = e
  exact insertion a b c d e f j A B

/-- The six rows a trip yields. -/
abbrev acc3 :=
  (k0_pay79 (k0_pay18 v115 li v119 k0_pay4) (k0_pay22 a15 v115 li v119 k0_pay4) (k0_pay32 v115 li v119 k0_pay4),
    k0_pay80 li (k0_pay18 v115 li v119 k0_pay4) (k0_pay22 a15 v115 li v119 k0_pay4) (k0_pay23 a15 a16 v115 li v119 k0_pay4) (k0_pay32 v115 li v119 k0_pay4),
    k0_pay84 (k0_pay18 v115 li v119 k0_pay4) (k0_pay22 a15 v115 li v119 k0_pay4) (k0_pay27 a15 a17 v115 li v119 k0_pay4) (k0_pay32 v115 li v119 k0_pay4),
    k0_pay85 li (k0_pay18 v115 li v119 k0_pay4) (k0_pay22 a15 v115 li v119 k0_pay4) (k0_pay23 a15 a16 v115 li v119 k0_pay4)
      (k0_pay27 a15 a17 v115 li v119 k0_pay4) (k0_pay28 a15 a16 a17 a18 v115 li v119 k0_pay4) (k0_pay32 v115 li v119 k0_pay4),
    k0_pay87 (k0_pay18 v115 li v119 k0_pay4) (k0_pay22 a15 v115 li v119 k0_pay4) (k0_pay27 a15 a17 v115 li v119 k0_pay4)
      (k0_pay30 a15 a17 a19 v115 li v119 k0_pay4) (k0_pay32 v115 li v119 k0_pay4),
    k0_pay88 li (k0_pay18 v115 li v119 k0_pay4) (k0_pay22 a15 v115 li v119 k0_pay4) (k0_pay23 a15 a16 v115 li v119 k0_pay4)
      (k0_pay27 a15 a17 v115 li v119 k0_pay4) (k0_pay28 a15 a16 a17 a18 v115 li v119 k0_pay4) (k0_pay30 a15 a17 a19 v115 li v119 k0_pay4)
      (k0_pay31 a15 a16 a17 a18 a19 a20 v115 li v119 k0_pay4) (k0_pay32 v115 li v119 k0_pay4))

theorem lane3 : lane (acc3 a15 a16 a17 a18 a19 a20 v115 li v119) j
    = pass3 dead (col li (j 0)) (D0 v115 v119 j) (lane (a15, a16, a17, a18, a19, a20) j) := by
  unfold pass3
  rw [← lane1 a15 a16 a17 a18 a19 a20 v115 li v119 j, ← lane2 a15 a16 a17 a18 a19 a20 v115 li v119 j]
  unfold pass
  rw [← e76 v115 li v119 j, ← e77 v115 li v119 j]
  unfold acc3 acc2 k0_pay79 k0_pay80 k0_pay84 k0_pay85 k0_pay87 k0_pay88 k0_pay86 k0_pay83 k0_pay82 k0_pay81 k0_pay78
  dsimp only
  generalize k0_pay76 (k0_pay18 v115 li v119 k0_pay4) (k0_pay32 v115 li v119 k0_pay4) = A
  generalize k0_pay77 li (k0_pay18 v115 li v119 k0_pay4) (k0_pay32 v115 li v119 k0_pay4) = B
  generalize k0_pay22 a15 v115 li v119 k0_pay4 = a
  generalize k0_pay23 a15 a16 v115 li v119 k0_pay4 = b
  generalize k0_pay27 a15 a17 v115 li v119 k0_pay4 = c
  generalize k0_pay28 a15 a16 a17 a18 v115 li v119 k0_pay4 = d
  generalize k0_pay30 a15 a17 a19 v115 li v119 k0_pay4 = e
  generalize k0_pay31 a15 a16 a17 a18 a19 a20 v115 li v119 k0_pay4 = f
  exact insertion a b c d e f j A B

end Trip

end Cert.KernelIdeal.Proof
-- ==== Proof.Tiles.lean ====
module

public import proofs.«01_k».proof.Proof.Lanes
public import Idealize.ShloMosaic.Lib.WholeRead

@[expose] public section

set_option maxRecDepth 16384

noncomputable section

/-! # The first loop, lane by lane

A trip reads 576 consecutive source rows, computes each row's masked squared distance to the lane's query, and makes three
passes. After the loop the three places hold, within a bound that three rows meet, exactly those rows. -/

namespace Cert.KernelIdeal.Proof

open Idealize.ShloMosaic Idealize.ShloMosaic.TcCoe
open Idealize.SL.Sem
open Cert.KernelIdeal.Gen Cert.Select Cert.Words

/-- The masked distance, which a row of another batch has. -/
def big : EReal := FloatOps.ofBits (F := Ideal) .f32 0x501502F9#32

/-- A source row's masked squared distance to a query. -/
def dist (P : S4096x3.Idx → EReal) (B : S4096x1.Idx → BitVec 32) (bq : BitVec 32) (qx qy qz : EReal) (s : Fin 4096) : EReal :=
  if B (ix2 s 0) = bq then
    (P (ix2 s 0) - qx) * (P (ix2 s 0) - qx) + (P (ix2 s 1) - qy) * (P (ix2 s 1) - qy) + (P (ix2 s 2) - qz) * (P (ix2 s 2) - qz)
  else big

/-- The row that place `k` of tile `t`'s window holds. -/
def row (a t : Nat) (k : Fin 576) : Fin 4096 := ⟨base (8 * a) t + k.val, by have := k.isLt; unfold base; omega⟩

theorem sel_if {α : Type} (p : Prop) [Decidable p] (x y : α) : Scalar.select (BitVec.ofBool (decide p)) x y = if p then x else y := by
  unfold Scalar.select
  by_cases h : p <;> simp [h]

theorem sel_ne {α : Type} (u v : BitVec 32) (x y : α) : Scalar.select (IntOp.cmpi .ne u v) x y = if u = v then y else x := by
  unfold Scalar.select IntOp.cmpi
  by_cases h : u = v
  · simp [h]
  · simp [h, bne_iff_ne.mpr h]

theorem sel_eq {α : Type} (u v : BitVec 32) (x y : α) : Scalar.select (IntOp.cmpi .eq u v) x y = if u = v then x else y := by
  unfold Scalar.select IntOp.cmpi
  by_cases h : u = v
  · simp [h]
  · simp [h, beq_eq_false_iff_ne.mpr h]

theorem sel_slt {α : Type} (u v : BitVec 32) (x y : α) : Scalar.select (IntOp.cmpi .slt u v) x y = if u.toInt < v.toInt then x else y := by
  unfold Scalar.select IntOp.cmpi
  by_cases h : u.toInt < v.toInt
  · simp [h, BitVec.slt_iff_toInt_lt.mpr h]
  · rw [if_neg h, if_neg]
    simp [BitVec.slt_eq_decide, h]

theorem toInt_ofNat {x : Nat} (h : x < 2147483648) : (BitVec.ofNat 32 x).toInt = x := by
  rw [BitVec.toInt_eq_toNat_cond, BitVec.toNat_ofNat, Nat.mod_eq_of_lt (by omega), if_pos (by omega)]

/-- A tile's distances, read at a place: the struck-out value in front of the tile's first row, else the masked distance. -/
theorem tile_dist (v4 : Vec Ideal S1x1x512 .i32) (v6 v8 v10 : Vec Ideal S1x512 .f32) (v77 v87 v97 : Vec Ideal S576x1 .f32)
    (v107 : Vec Ideal S576x1 .i32) (v119 : IVec S576x512 1) (k : Fin 576) (q : Fin 512) :
    k0_pay5 (k0_pay1 (k0_pay65 v4) (k0_pay66 v6) (k0_pay67 v8) (k0_pay68 v10) v77 v87 v97 v107) v119 k0_pay4 (ix2 k q)
      = Scalar.select (v119 (ix2 k q)) dead (if v107 (ix2 k 0) = v4 (ix3 0 0 q) then
          (v77 (ix2 k 0) - v6 (ix2 0 q)) * (v77 (ix2 k 0) - v6 (ix2 0 q)) + (v87 (ix2 k 0) - v8 (ix2 0 q)) * (v87 (ix2 k 0) - v8 (ix2 0 q))
            + (v97 (ix2 k 0) - v10 (ix2 0 q)) * (v97 (ix2 k 0) - v10 (ix2 0 q)) else big) := by
  unfold k0_pay5 k0_pay1 k0_pay4 k0_pay65 k0_pay66 k0_pay67 k0_pay68
  simp only [pointwise]
  rw [sel_ne, zero_add]
  rfl

/-- The words of a tile's rows. -/
theorem tile_word (a : Fin 513) (T : Fin 9) (v12 : IVec S576x512 32) (hv : ∀ k q, v12 (ix2 k q) = BitVec.ofNat 32 k.val)
    (t : Fin (k0_t1_loop (BitVec.ofNat 32 T.val)).trips) (k : Fin 576) (q : Fin 512) :
    k0_pay2 (F := Ideal) (BitVec.ofNat 32 (8 * a.val)) (BitVec.ofNat 32 T.val) v12 0#32 1#32 t (ix2 k q) = word (row a.val t.val k) := by
  have ht : t.val < 8 := by have := t.isLt; have := T.isLt; have := trips1 T; omega
  unfold k0_pay2
  simp only [pointwise]
  rw [hv]
  refine (congrArg (fun z => IntOp.addi (BitVec.ofNat 32 k.val) z) (base_word a ⟨t.val, ht⟩)).trans ?_
  unfold word row base IntOp.addi
  apply BitVec.eq_of_toNat_eq
  have := a.isLt; have := k.isLt
  simp only [BitVec.toNat_add, BitVec.toNat_ofNat]
  omega

/-- Whether a place lies in front of the tile's first row. -/
theorem tile_front (a : Fin 513) (T : Fin 9) (v12 : IVec S576x512 32) (hv : ∀ k q, v12 (ix2 k q) = BitVec.ofNat 32 k.val)
    (t : Fin (k0_t1_loop (BitVec.ofNat 32 T.val)).trips) (k : Fin 576) (q : Fin 512) (x y : EReal) :
    Scalar.select (k0_pay3 (F := Ideal) (BitVec.ofNat 32 (8 * a.val)) (BitVec.ofNat 32 T.val) v12 0#32 1#32 t (ix2 k q)) x y
      = if (row a.val t.val k).val < 8 * a.val + 576 * t.val then x else y := by
  have ht : t.val < 8 := by have := t.isLt; have := T.isLt; have := trips1 T; omega
  have hw := tile_word a T v12 hv t k q
  have hf := first_word a ⟨t.val, ht⟩
  unfold k0_pay3
  refine (congrArg₂ (fun u v => Scalar.select (IntOp.cmpi .slt u v) x y) hw hf).trans ?_
  have := a.isLt; have := (row a.val t.val k).isLt
  rw [sel_slt, toInt_ofNat (by omega), toInt_ofNat (by dsimp only; omega)]
  exact if_congr (by dsimp only; omega) rfl rfl

section Loop

variable (𝒱 : Variants) (c : Dev nD) (bd : Option 𝒱.V) (i : grid0.Coords)
  (arg1 : Memref sig .tc .smem S16 .i32) (harg1 : arg1.IsWhole) (arg2 : Memref sig .tc .smem S16 .i32) (harg2 : arg2.IsWhole) (arg3 : Memref sig .tc .vmem S3x512 .f32) (harg3 : arg3.IsWhole)
   (arg4 : Memref sig .tc .vmem S512x128 .f32) (harg4 : arg4.IsWhole) (arg5 : Memref sig .tc .vmem S1x1x512 .i32) (harg5 : arg5.IsWhole) (arg6 : Memref sig .tc .vmem S4096x3 .f32) (harg6 : arg6.IsWhole)
   (arg7 : Memref sig .tc .vmem S4096x1 .i32) (harg7 : arg7.IsWhole) (arg8 : Memref sig .tc .vmem S4096x512 .f32) (harg8 : arg8.IsWhole) (arg9 : Memref sig .tc .vmem S640x512 .f32) (harg9 : arg9.IsWhole)
   (arg10 : Memref sig .tc .vmem S1x512 .f32) (harg10 : arg10.IsWhole) (arg11 : Memref sig .tc .vmem S512x256 .f32) (harg11 : arg11.IsWhole) (arg12 : Memref sig .tc .vmem S1x256 .f32) (harg12 : arg12.IsWhole)
   (arg13 : Memref sig .tc .vmem S512x256 .f32) (harg13 : arg13.IsWhole)
  (a : Fin 513) (T : Fin 9) (k0_hw1 : k0_chk1 (BitVec.ofNat 32 (8 * a.val)) (BitVec.ofNat 32 T.val)) (v4 : Vec Ideal S1x1x512 .i32)
  (v6 v8 v10 : Vec Ideal S1x512 .f32) (v12 : IVec S576x512 32) (P : S4096x3.Idx → EReal) (B : S4096x1.Idx → BitVec 32)

/-- One trip's rows are the three insertions' of its tile. -/
theorem trip_acc (X6 : BufTy.Contents (Elt Ideal) arg6.view.ty) (X7 : BufTy.Contents (Elt Ideal) arg7.view.ty)
    (t : Fin (k0_t1_loop (BitVec.ofNat 32 T.val)).trips) (acc) :
    tripR_k0_t1 (F := Ideal) 𝒱 c bd i arg1 harg1 arg2 harg2 arg3 harg3 arg4 harg4 arg5 harg5 arg6 harg6 arg7 harg7 arg8 harg8 arg9 harg9 arg10 harg10 arg11 harg11 arg12 harg12 arg13 harg13
      (BitVec.ofNat 32 (8 * a.val)) (BitVec.ofNat 32 T.val) k0_hw1 v4 v6 v8 v10 v12 X6 X7 t acc
      = acc3 acc.1 acc.2.1 acc.2.2.1 acc.2.2.2.1 acc.2.2.2.2.1 acc.2.2.2.2.2
          (trip_k0_t1.sl.r (F := Ideal) arg6 arg7 (BitVec.ofNat 32 (8 * a.val)) (BitVec.ofNat 32 T.val) k0_hw1 v4 v6 v8 v10 X6 X7 t)
          (k0_pay2 (F := Ideal) (BitVec.ofNat 32 (8 * a.val)) (BitVec.ofNat 32 T.val) v12 0#32 1#32 t)
          (k0_pay3 (F := Ideal) (BitVec.ofNat 32 (8 * a.val)) (BitVec.ofNat 32 T.val) v12 0#32 1#32 t) := by
  unfold tripR_k0_t1 trip_k0_t1
  dsimp only
  rfl

/-- The masked distances to lane `q`'s query. -/
abbrev laneDist (v4 : Vec Ideal S1x1x512 .i32) (v6 v8 v10 : Vec Ideal S1x512 .f32) (P : S4096x3.Idx → EReal) (B : S4096x1.Idx → BitVec 32)
    (q : Fin 512) : Fin 4096 → EReal :=
  dist P B (v4 (ix3 0 0 q)) (v6 (ix2 0 q)) (v8 (ix2 0 q)) (v10 (ix2 0 q))

/-- A tile's column, as the first pass sees it. -/
theorem tile_col (hv : ∀ k q, v12 (ix2 k q) = BitVec.ofNat 32 k.val) (t : Fin (k0_t1_loop (BitVec.ofNat 32 T.val)).trips) (q : Fin 512)
    (k : Fin 576) :
    D0 (trip_k0_t1.sl.r (F := Ideal) arg6 arg7 (BitVec.ofNat 32 (8 * a.val)) (BitVec.ofNat 32 T.val) k0_hw1 v4 v6 v8 v10
        (harg6.unread P) (harg7.unread B) t)
      (k0_pay3 (F := Ideal) (BitVec.ofNat 32 (8 * a.val)) (BitVec.ofNat 32 T.val) v12 0#32 1#32 t) (ix1 q) k
      = if (row a.val t.val k).val < 8 * a.val + 576 * t.val then dead
        else laneDist v4 v6 v8 v10 P B q (row a.val t.val k) := by
  unfold trip_k0_t1.sl.r
  refine (tile_dist _ _ _ _ _ _ _ _ _ k q).trans ?_
  rw [tile_front a T v12 hv t k q]
  have hm := mult_toNat a T t
  refine if_congr Iff.rfl rfl ?_
  have e6 : ∀ (o : Fin 3) off (h : off = ![(k0_mult1 (BitVec.ofNat 32 (8 * a.val)) (BitVec.ofNat 32 T.val) t).toNat, o.val]) inb,
      (Rect.unit (s := S4096x3) off S576x1.size inb).toLoadRect.idx (ix2 k 0) = ix2 (row a.val t.val k) o := by
    intro o off h inb
    subst h
    funext x
    apply Fin.ext
    match x with
    | ⟨0, _⟩ => show (k0_mult1 (BitVec.ofNat 32 (8 * a.val)) (BitVec.ofNat 32 T.val) t).toNat + 1 * k.val = base (8 * a.val) t.val + k.val; omega
    | ⟨1, _⟩ => show o.val + 1 * 0 = o.val; omega
  have e7 : ∀ off (h : off = ![(k0_mult1 (BitVec.ofNat 32 (8 * a.val)) (BitVec.ofNat 32 T.val) t).toNat, 0]) inb,
      (Rect.unit (s := S4096x1) off S576x1.size inb).toLoadRect.idx (ix2 k 0) = ix2 (row a.val t.val k) 0 := by
    intro off h inb
    subst h
    funext x
    apply Fin.ext
    match x with
    | ⟨0, _⟩ => show (k0_mult1 (BitVec.ofNat 32 (8 * a.val)) (BitVec.ofNat 32 T.val) t).toNat + 1 * k.val = base (8 * a.val) t.val + k.val; omega
    | ⟨1, _⟩ => rfl
  have key : ∀ (b : BitVec 32) (x y z : EReal), b = B (ix2 (row a.val t.val k) 0) → x = P (ix2 (row a.val t.val k) 0) →
      y = P (ix2 (row a.val t.val k) 1) → z = P (ix2 (row a.val t.val k) 2) → (if b = v4 (ix3 0 0 q) then
      (x - v6 (ix2 0 q)) * (x - v6 (ix2 0 q)) + (y - v8 (ix2 0 q)) * (y - v8 (ix2 0 q)) + (z - v10 (ix2 0 q)) * (z - v10 (ix2 0 q)) else big)
      = laneDist v4 v6 v8 v10 P B q (row a.val t.val k) := by
    rintro _ _ _ _ rfl rfl rfl rfl; rfl
  refine key _ _ _ _ ?_ ?_ ?_ ?_
  · refine (harg7.readAt_unread (Val := Elt Ideal) B _ _).trans ?_
    exact congrArg B (e7  _ rfl _)
  · refine (harg6.readAt_unread (Val := Elt Ideal) P _ _).trans ?_
    exact congrArg P (e6 0 _ rfl _)
  · refine (harg6.readAt_unread (Val := Elt Ideal) P _ _).trans ?_
    exact congrArg P (e6 1 _ rfl _)
  · refine (harg6.readAt_unread (Val := Elt Ideal) P _ _).trans ?_
    exact congrArg P (e6 2 _ rfl _)

/-- One trip, at a lane: three passes over the tile's column. -/
theorem trip_lane (hv : ∀ k q, v12 (ix2 k q) = BitVec.ofNat 32 k.val) (t : Fin (k0_t1_loop (BitVec.ofNat 32 T.val)).trips) (q : Fin 512) (acc) :
    lane (tripR_k0_t1 (F := Ideal) 𝒱 c bd i arg1 harg1 arg2 harg2 arg3 harg3 arg4 harg4 arg5 harg5 arg6 harg6 arg7 harg7 arg8 harg8 arg9 harg9 arg10 harg10 arg11 harg11 arg12 harg12 arg13 harg13
      (BitVec.ofNat 32 (8 * a.val)) (BitVec.ofNat 32 T.val) k0_hw1 v4 v6 v8 v10 v12 (harg6.unread P) (harg7.unread B) t acc) (ix1 q)
      = pass3 dead (fun k => word (row a.val t.val k)) (fun k => if (row a.val t.val k).val < 8 * a.val + 576 * t.val then dead
          else laneDist v4 v6 v8 v10 P B q (row a.val t.val k)) (lane acc (ix1 q)) := by
  rw [trip_acc, lane3, show col (k0_pay2 (F := Ideal) (BitVec.ofNat 32 (8 * a.val)) (BitVec.ofNat 32 T.val) v12 0#32 1#32 t) ((ix1 q : S512.Idx) 0)
      = fun k => word (row a.val t.val k) from funext fun k => tile_word a T v12 hv t k q,
    show D0 (trip_k0_t1.sl.r (F := Ideal) arg6 arg7 (BitVec.ofNat 32 (8 * a.val)) (BitVec.ofNat 32 T.val) k0_hw1 v4 v6 v8 v10
        (harg6.unread P) (harg7.unread B) t)
      (k0_pay3 (F := Ideal) (BitVec.ofNat 32 (8 * a.val)) (BitVec.ofNat 32 T.val) v12 0#32 1#32 t) (ix1 q)
      = fun k => if (row a.val t.val k).val < 8 * a.val + 576 * t.val then dead
        else laneDist v4 v6 v8 v10 P B q (row a.val t.val k) from funext fun k => tile_col (arg6 := arg6) (harg6 := harg6) (arg7 := arg7) (harg7 := harg7) (a := a) (T := T) (k0_hw1 := k0_hw1) (v4 := v4) (v6 := v6) (v8 := v8) (v10 := v10) (v12 := v12) (P := P) (B := B) hv t q k]

/-- What a tile shows: the rows within the bound that it is answerable for. -/
theorem tile_shows (d : Fin 4096 → EReal) (τ : EReal) (a t : Nat) (hd : τ < dead) :
    Shows d τ (row a t) (fun k => if (row a t k).val < 8 * a + 576 * t then dead else d (row a t k))
      (Finset.univ.filter fun s => d s ≤ τ ∧ 8 * a + 576 * t ≤ s.val ∧ s.val < 8 * a + 576 * (t + 1)) := by
  refine ⟨fun k hk => ?_, fun k hk => ?_, fun u hu => ?_, fun u hu => (Finset.mem_filter.mp hu).2.1⟩
  · rw [if_neg (by have := (Finset.mem_filter.mp hk).2; omega)]
  · split
    · exact hd
    · rename_i h
      refine not_le.mp fun hle => hk (Finset.mem_filter.mpr ⟨Finset.mem_univ _, hle, by omega, ?_⟩)
      have := k.isLt
      show base (8 * a) t + k.val < _
      unfold base; omega
  · have h := (Finset.mem_filter.mp hu).2
    have := u.isLt
    refine ⟨⟨u.val - base (8 * a) t, by unfold base; omega⟩, Fin.ext ?_⟩
    show base (8 * a) t + (u.val - base (8 * a) t) = u.val
    unfold base; omega

/-- Before trip `n` the places hold, within the bound, exactly the rows of the tiles before it. -/
theorem state_inv (hv : ∀ k q, v12 (ix2 k q) = BitVec.ofNat 32 k.val) (q : Fin 512) (τ : EReal) (hd : τ < dead)
    (hc : (Finset.univ.filter fun s => laneDist v4 v6 v8 v10 P B q s ≤ τ).card ≤ 3) (init)
    (hi : ∀ x ∈ items (lane init (ix1 q)), τ < x.1) (n : Nat) (hn : n ≤ T.val) :
    Inv (laneDist v4 v6 v8 v10 P B q) word τ (lane (st_k0_t1 (F := Ideal) 𝒱 c bd i arg1 harg1 arg2 harg2 arg3 harg3 arg4 harg4 arg5 harg5 arg6 harg6 arg7 harg7 arg8 harg8 arg9 harg9 arg10 harg10 arg11 harg11 arg12 harg12 arg13 harg13
      (BitVec.ofNat 32 (8 * a.val)) (BitVec.ofNat 32 T.val) k0_hw1 v4 v6 v8 v10 v12 (harg6.unread P) (harg7.unread B) init n) (ix1 q))
      (Finset.univ.filter fun s => laneDist v4 v6 v8 v10 P B q s ≤ τ ∧ 8 * a.val ≤ s.val ∧ s.val < 8 * a.val + 576 * n) := by
  induction n with
  | zero =>
    rw [show (Finset.univ.filter fun s : Fin 4096 => laneDist v4 v6 v8 v10 P B q s ≤ τ ∧ 8 * a.val ≤ s.val ∧ s.val < 8 * a.val + 576 * 0) = ∅
      from Finset.filter_eq_empty_iff.mpr fun s _ h => by omega, st_k0_t1_zero]
    exact Inv.init hi
  | succ n ih =>
    have ht : n < (k0_t1_loop (BitVec.ofNat 32 T.val)).trips := by rw [trips1]; omega
    rw [st_k0_t1_succ (F := Ideal) 𝒱 c bd i arg1 harg1 arg2 harg2 arg3 harg3 arg4 harg4 arg5 harg5 arg6 harg6 arg7 harg7 arg8 harg8 arg9 harg9 arg10 harg10 arg11 harg11 arg12 harg12 arg13 harg13
      (BitVec.ofNat 32 (8 * a.val)) (BitVec.ofNat 32 T.val) k0_hw1 v4 v6 v8 v10 v12 (harg6.unread P) (harg7.unread B) init ⟨n, ht⟩,
      trip_lane 𝒱 c bd i arg1 harg1 arg2 harg2 arg3 harg3 arg4 harg4 arg5 harg5 arg6 harg6 arg7 harg7 arg8 harg8 arg9 harg9 arg10 harg10 arg11 harg11 arg12 harg12 arg13 harg13 a T k0_hw1 v4 v6 v8 v10 v12 P B hv]
    have hu : (Finset.univ.filter fun s : Fin 4096 => laneDist v4 v6 v8 v10 P B q s ≤ τ ∧ 8 * a.val ≤ s.val ∧ s.val < 8 * a.val + 576 * (n + 1))
        = (Finset.univ.filter fun s => laneDist v4 v6 v8 v10 P B q s ≤ τ ∧ 8 * a.val ≤ s.val ∧ s.val < 8 * a.val + 576 * n)
          ∪ (Finset.univ.filter fun s => laneDist v4 v6 v8 v10 P B q s ≤ τ ∧ 8 * a.val + 576 * n ≤ s.val ∧ s.val < 8 * a.val + 576 * (n + 1)) := by
      ext s
      simp only [Finset.mem_union, Finset.mem_filter, Finset.mem_univ, true_and]
      constructor
      · rintro ⟨h, h1, h2⟩
        by_cases h3 : s.val < 8 * a.val + 576 * n
        · exact Or.inl ⟨h, h1, h3⟩
        · exact Or.inr ⟨h, by omega, h2⟩
      · rintro (⟨h, h1, h2⟩ | ⟨h, h1, h2⟩)
        · exact ⟨h, h1, by omega⟩
        · exact ⟨h, by omega, h2⟩
    rw [hu]
    refine pass3_step (tile_shows _ τ a.val n hd) hd (by omega) (ih (by omega)) ?_ ?_
    · rw [Finset.disjoint_left]
      intro s h1 h2
      have := (Finset.mem_filter.mp h1).2; have := (Finset.mem_filter.mp h2).2; omega
    · rw [← hu]
      exact le_trans (Finset.card_le_card fun s h => Finset.mem_filter.mpr ⟨Finset.mem_univ _, (Finset.mem_filter.mp h).2.1⟩) hc

end Loop

end Cert.KernelIdeal.Proof
-- ==== Proof.Gather.lean ====
module

public import proofs.«01_k».proof.Proof.Tiles

@[expose] public section

set_option maxRecDepth 16384

noncomputable section

/-! # The gather loop

A trip reads 576 consecutive feature rows and adds, at a query and a channel, each row's feature times the weight of the place
whose word is the row's. Rows in front of the tile's first are given a word no place holds. -/

namespace Cert.KernelIdeal.Proof

open Idealize.ShloMosaic Idealize.ShloMosaic.TcCoe
open Idealize.SL.Sem
open Cert.KernelIdeal.Gen Cert.Select Cert.Words

theorem sel_sge {α : Type} (u v : BitVec 32) (x y : α) : Scalar.select (IntOp.cmpi .sge u v) x y = if v.toInt ≤ u.toInt then x else y := by
  unfold Scalar.select IntOp.cmpi
  by_cases h : v.toInt ≤ u.toInt
  · rw [if_pos h, if_pos]
    simp [BitVec.sle_iff_toInt_le.mpr h]
  · rw [if_neg h, if_neg]
    simp [BitVec.sle_eq_decide, h]

/-- The weight of the place whose word is `z`. -/
def pick (i0 : BitVec 32) (w0 : EReal) (i1 : BitVec 32) (w1 : EReal) (i2 : BitVec 32) (w2 : EReal) (z : BitVec 32) : EReal :=
  if z = i0 then w0 else if z = i1 then w1 else if z = i2 then w2 else 0

/-- The word of a row, or the one no place holds when the row lies in front of the tile. -/
def mark (a t : Nat) (k : Fin 576) : BitVec 32 := if 8 * a + 576 * t ≤ (row a t k).val then word (row a t k) else 4294967295#32

theorem trips3 : ∀ T : Fin 9, (k0_t3_loop (BitVec.ofNat 32 T.val)).trips = T.val := by decide +kernel

theorem trips4 (v : BitVec 32) : (k0_t4_loop v).trips = 0 := Idealize.ShloMosaic.Scf.rem_trips _ _

theorem mult3_eq (a : Fin 513) (T : Fin 9) (t : Fin (k0_t3_loop (BitVec.ofNat 32 T.val)).trips) :
    k0_off10 (BitVec.ofNat 32 (8 * a.val)) (BitVec.ofNat 32 T.val) t = ![base (8 * a.val) t.val, 0] := by
  have ht : t.val < 8 := by have := t.isLt; have := T.isLt; have := trips3 T; omega
  unfold k0_off10
  have := base_word a ⟨t.val, ht⟩
  dsimp only
  refine congrArg (fun z : BitVec 32 => ![z.toNat, 0]) (this.trans ?_) |>.trans (congrArg (fun z => ![z, 0]) (?_ : (BitVec.ofNat 32 (base (8 * a.val) t.val)).toNat = _))
  · rfl
  · rw [BitVec.toNat_ofNat, Nat.mod_eq_of_lt]; unfold base; omega

/-- The word a tile gives a place. -/
theorem mark_word (a : Fin 513) (t : Fin 8) (k : Fin 576) (z : BitVec 32) (hz : z = BitVec.ofNat 32 k.val) :
    Scalar.select (IntOp.cmpi CmpIPredicate.sge
        (IntOp.addi z (Scalar.minsi (Scalar.addi (BitVec.ofNat 32 (8 * a.val)) (Scalar.muli (Scf.iv 0#32 1#32 t.val) 576#32)) 3520#32))
        (Scalar.addi (BitVec.ofNat 32 (8 * a.val)) (Scalar.muli (Scf.iv 0#32 1#32 t.val) 576#32)))
      (IntOp.addi z (Scalar.minsi (Scalar.addi (BitVec.ofNat 32 (8 * a.val)) (Scalar.muli (Scf.iv 0#32 1#32 t.val) 576#32)) 3520#32))
      4294967295#32 = mark a.val t.val k := by
  subst hz
  have h1 : IntOp.addi (BitVec.ofNat 32 k.val) (Scalar.minsi (Scalar.addi (BitVec.ofNat 32 (8 * a.val)) (Scalar.muli (Scf.iv 0#32 1#32 t.val) 576#32)) 3520#32)
      = word (row a.val t.val k) := by
    refine (congrArg (fun z => IntOp.addi (BitVec.ofNat 32 k.val) z) (base_word a t)).trans ?_
    unfold word row base IntOp.addi
    apply BitVec.eq_of_toNat_eq
    have := a.isLt; have := k.isLt; have := t.isLt
    simp only [BitVec.toNat_add, BitVec.toNat_ofNat]
    omega
  have h2 := first_word a t
  rw [h1]
  refine (congrArg (fun v => Scalar.select (IntOp.cmpi .sge (word (row a.val t.val k)) v) _ _) h2).trans ?_
  have := a.isLt; have := (row a.val t.val k).isLt; have := t.isLt
  rw [sel_sge]
  unfold word
  rw [toInt_ofNat (by omega), toInt_ofNat (by omega)]
  exact if_congr (by omega) rfl rfl

/-- One trip's sum, at a query and a channel. -/
theorem pay_trip (a : Fin 513) (T : Fin 9) (v13 : IVec S512x576 32) (hv : ∀ q k, v13 (ix2 q k) = BitVec.ofNat 32 k.val)
    (i0 i1 i2 : IVec S512 32) (d2 w0 w1 : FVec Ideal S512 .f32) (t : Fin (k0_t3_loop (BitVec.ofNat 32 T.val)).trips)
    (acc : FVec Ideal S512x512 .f32) (X : Vec Ideal S576x512 .f32) (q c : Fin 512) :
    k0_pay111 (BitVec.ofNat 32 (8 * a.val)) (BitVec.ofNat 32 T.val) v13 i0 i1 d2 i2 w0 w1 t acc X (ix2 q c)
      = acc (ix2 q c) + ∑ k : Fin 576, pick (i0 (ix1 q)) (k0_pay107 d2 w0 w1 (ix1 q)) (i1 (ix1 q)) (k0_pay108 d2 w0 w1 (ix1 q))
          (i2 (ix1 q)) (k0_pay109 d2 w0 w1 (ix1 q)) (mark a.val t.val k) * X (ix2 k c) := by
  have ht : t.val < 8 := by have := t.isLt; have := T.isLt; have := trips3 T; omega
  unfold k0_pay111
  simp only [pointwise]
  rw [zero_add]
  refine congrArg (fun z => acc (ix2 q c) + z) (Finset.sum_congr rfl fun k _ => ?_)
  have hm := mark_word a ⟨t.val, ht⟩ k (v13 (ix2 q k)) (hv q k)
  refine congrArg (fun z => z * X (ix2 k c)) ?_
  rw [sel_eq, sel_eq, sel_eq, hm]
  rfl

/-- A tile's rows, each once. -/
theorem sum_tile (a t : Nat) (f : BitVec 32 → EReal) (h0 : f 4294967295#32 = 0) (X : Fin 4096 → EReal) :
    ∑ k : Fin 576, f (mark a t k) * X (row a t k)
      = ∑ s ∈ Finset.univ.filter (fun s : Fin 4096 => 8 * a + 576 * t ≤ s.val ∧ s.val < 8 * a + 576 * (t + 1)), f (word s) * X s := by
  have h1 : ∑ k : Fin 576, f (mark a t k) * X (row a t k)
      = ∑ k ∈ Finset.univ.filter (fun k : Fin 576 => 8 * a + 576 * t ≤ (row a t k).val), f (word (row a t k)) * X (row a t k) := by
    rw [Finset.sum_filter]
    refine Finset.sum_congr rfl fun k _ => ?_
    unfold mark
    split
    · rfl
    · rw [h0, zero_mul]
  rw [h1]
  refine Finset.sum_bij (fun k _ => row a t k) (fun k hk => ?_) (fun k _ k' _ h => ?_) (fun s hs => ?_) (fun _ _ => rfl)
  · have hk' := (Finset.mem_filter.mp hk).2; have := k.isLt
    refine Finset.mem_filter.mpr ⟨Finset.mem_univ _, hk', ?_⟩
    show base (8 * a) t + k.val < _
    unfold base; omega
  · have := congrArg Fin.val h
    apply Fin.ext
    change base (8 * a) t + k.val = base (8 * a) t + k'.val at this
    omega
  · have h := (Finset.mem_filter.mp hs).2
    have := s.isLt
    have e : row a t ⟨s.val - base (8 * a) t, by unfold base; omega⟩ = s := by
      apply Fin.ext
      show base (8 * a) t + (s.val - base (8 * a) t) = s.val
      unfold base; omega
    exact ⟨_, Finset.mem_filter.mpr ⟨Finset.mem_univ _, by rw [e]; exact h.1⟩, e⟩

section Loop

variable (𝒱 : Variants) (c : Dev nD) (bd : Option 𝒱.V) (i : grid0.Coords)
  (arg1 : Memref sig .tc .smem S16 .i32) (harg1 : arg1.IsWhole) (arg2 : Memref sig .tc .smem S16 .i32) (harg2 : arg2.IsWhole) (arg3 : Memref sig .tc .vmem S3x512 .f32) (harg3 : arg3.IsWhole)
   (arg4 : Memref sig .tc .vmem S512x128 .f32) (harg4 : arg4.IsWhole) (arg5 : Memref sig .tc .vmem S1x1x512 .i32) (harg5 : arg5.IsWhole) (arg6 : Memref sig .tc .vmem S4096x3 .f32) (harg6 : arg6.IsWhole)
   (arg7 : Memref sig .tc .vmem S4096x1 .i32) (harg7 : arg7.IsWhole) (arg8 : Memref sig .tc .vmem S4096x512 .f32) (harg8 : arg8.IsWhole) (arg9 : Memref sig .tc .vmem S640x512 .f32) (harg9 : arg9.IsWhole)
   (arg10 : Memref sig .tc .vmem S1x512 .f32) (harg10 : arg10.IsWhole) (arg11 : Memref sig .tc .vmem S512x256 .f32) (harg11 : arg11.IsWhole) (arg12 : Memref sig .tc .vmem S1x256 .f32) (harg12 : arg12.IsWhole)
   (arg13 : Memref sig .tc .vmem S512x256 .f32) (harg13 : arg13.IsWhole)
  (a : Fin 513) (T : Fin 9) (k0_hw1 : k0_chk1 (BitVec.ofNat 32 (8 * a.val)) (BitVec.ofNat 32 T.val))
  (v13 : IVec S512x576 32) (i0 i1 i2 : IVec S512 32) (d2 w0 w1 : FVec Ideal S512 .f32) (X : S4096x512.Idx → EReal)

/-- One trip adds the features of its tile's rows, weighted. -/
theorem gather_trip (hv : ∀ q k, v13 (ix2 q k) = BitVec.ofNat 32 k.val) (t : Fin (k0_t3_loop (BitVec.ofNat 32 T.val)).trips)
    (acc : FVec Ideal S512x512 .f32) (q h : Fin 512)
    (h0 : pick (i0 (ix1 q)) (k0_pay107 d2 w0 w1 (ix1 q)) (i1 (ix1 q)) (k0_pay108 d2 w0 w1 (ix1 q))
          (i2 (ix1 q)) (k0_pay109 d2 w0 w1 (ix1 q)) 4294967295#32 = 0) :
    tripR_k0_t3 (F := Ideal) 𝒱 c bd i arg1 harg1 arg2 harg2 arg3 harg3 arg4 harg4 arg5 harg5 arg6 harg6 arg7 harg7 arg8 harg8 arg9 harg9 arg10 harg10 arg11 harg11 arg12 harg12 arg13 harg13
      (BitVec.ofNat 32 (8 * a.val)) (BitVec.ofNat 32 T.val) k0_hw1 v13 i0 i1 d2 i2 w0 w1 (harg8.unread X) t acc (ix2 q h)
      = acc (ix2 q h) + ∑ s ∈ Finset.univ.filter (fun s : Fin 4096 => 8 * a.val + 576 * t.val ≤ s.val ∧ s.val < 8 * a.val + 576 * (t.val + 1)),
          pick (i0 (ix1 q)) (k0_pay107 d2 w0 w1 (ix1 q)) (i1 (ix1 q)) (k0_pay108 d2 w0 w1 (ix1 q))
          (i2 (ix1 q)) (k0_pay109 d2 w0 w1 (ix1 q)) (word s) * X (ix2 s h) := by
  unfold tripR_k0_t3 trip_k0_t3
  dsimp only
  refine (pay_trip a T v13 hv _ _ _ _ _ _ t _ _ q h).trans ?_
  refine congrArg (fun z => acc (ix2 q h) + z) ?_
  refine Eq.trans (Finset.sum_congr rfl fun k _ => ?_) (sum_tile a.val t.val _ h0 fun s => X (ix2 s h))
  refine congrArg (fun z : EReal => pick (i0 (ix1 q)) (k0_pay107 d2 w0 w1 (ix1 q)) (i1 (ix1 q)) (k0_pay108 d2 w0 w1 (ix1 q))
          (i2 (ix1 q)) (k0_pay109 d2 w0 w1 (ix1 q)) (mark a.val t.val k) * z) ?_
  refine (harg8.readAt_unread (Val := Elt Ideal) X _ _).trans ?_
  refine congrArg X ?_
  have e : ∀ off (ho : off = ![base (8 * a.val) t.val, 0]) inb,
      (Rect.unit (s := S4096x512) off S576x512.size inb).toLoadRect.idx (ix2 k h) = ix2 (row a.val t.val k) h := by
    intro off ho inb
    subst ho
    funext x
    apply Fin.ext
    match x with
    | ⟨0, _⟩ => show base (8 * a.val) t.val + 1 * k.val = base (8 * a.val) t.val + k.val; omega
    | ⟨1, _⟩ => show 0 + 1 * h.val = h.val; omega
  exact e _ (mult3_eq a T t) _

/-- Before trip `n` the sum holds the rows of the tiles before it. -/
theorem gather_state (hv : ∀ q k, v13 (ix2 q k) = BitVec.ofNat 32 k.val) (q h : Fin 512)
    (h0 : pick (i0 (ix1 q)) (k0_pay107 d2 w0 w1 (ix1 q)) (i1 (ix1 q)) (k0_pay108 d2 w0 w1 (ix1 q))
          (i2 (ix1 q)) (k0_pay109 d2 w0 w1 (ix1 q)) 4294967295#32 = 0) (init : FVec Ideal S512x512 .f32) (hi : init (ix2 q h) = 0)
    (n : Nat) (hn : n ≤ T.val) :
    st_k0_t3 (F := Ideal) 𝒱 c bd i arg1 harg1 arg2 harg2 arg3 harg3 arg4 harg4 arg5 harg5 arg6 harg6 arg7 harg7 arg8 harg8 arg9 harg9 arg10 harg10 arg11 harg11 arg12 harg12 arg13 harg13
      (BitVec.ofNat 32 (8 * a.val)) (BitVec.ofNat 32 T.val) k0_hw1 v13 i0 i1 d2 i2 w0 w1 (harg8.unread X) init n (ix2 q h)
      = ∑ s ∈ Finset.univ.filter (fun s : Fin 4096 => 8 * a.val ≤ s.val ∧ s.val < 8 * a.val + 576 * n),
          pick (i0 (ix1 q)) (k0_pay107 d2 w0 w1 (ix1 q)) (i1 (ix1 q)) (k0_pay108 d2 w0 w1 (ix1 q))
          (i2 (ix1 q)) (k0_pay109 d2 w0 w1 (ix1 q)) (word s) * X (ix2 s h) := by
  induction n with
  | zero =>
    rw [show (Finset.univ.filter fun s : Fin 4096 => 8 * a.val ≤ s.val ∧ s.val < 8 * a.val + 576 * 0) = ∅
      from Finset.filter_eq_empty_iff.mpr fun s _ h => by omega, st_k0_t3_zero]
    exact hi
  | succ n ih =>
    have ht : n < (k0_t3_loop (BitVec.ofNat 32 T.val)).trips := by rw [trips3]; omega
    rw [st_k0_t3_succ (F := Ideal) 𝒱 c bd i arg1 harg1 arg2 harg2 arg3 harg3 arg4 harg4 arg5 harg5 arg6 harg6 arg7 harg7 arg8 harg8 arg9 harg9 arg10 harg10 arg11 harg11 arg12 harg12 arg13 harg13
      (BitVec.ofNat 32 (8 * a.val)) (BitVec.ofNat 32 T.val) k0_hw1 v13 i0 i1 d2 i2 w0 w1 (harg8.unread X) init ⟨n, ht⟩,
      gather_trip 𝒱 c bd i arg1 harg1 arg2 harg2 arg3 harg3 arg4 harg4 arg5 harg5 arg6 harg6 arg7 harg7 arg8 harg8 arg9 harg9 arg10 harg10 arg11 harg11 arg12 harg12 arg13 harg13 a T k0_hw1 v13 i0 i1 i2 d2 w0 w1 X hv _ _ q h h0,
      ih (by omega)]
    rw [← Finset.sum_union]
    · refine Finset.sum_congr ?_ fun _ _ => rfl
      ext s
      simp only [Finset.mem_union, Finset.mem_filter, Finset.mem_univ, true_and]
      omega
    · rw [Finset.disjoint_left]
      intro s h1 h2
      have := (Finset.mem_filter.mp h1).2; have := (Finset.mem_filter.mp h2).2; dsimp only at *; omega

end Loop

end Cert.KernelIdeal.Proof
-- ==== Proof.Order.lean ====
module

public import Idealize.ShloMosaic.Lib.SortFacts
public import Idealize.ShloMosaic.Lib.Pointwise
public import Idealize.ShloMosaic.PureOps.Ideal.Laws

@[expose] public section

set_option maxRecDepth 16384

noncomputable section

/-! # The first few of a stable sort

The greatest entries of a row, greater first: what the first few sorted places hold, and that when the third is strictly
greater than the fourth they are exactly the entries down to the third. -/

namespace Cert.Order

open Idealize.ShloMosaic

/-- The position of the entry a stable descending sort puts at a place. -/
def ord {n : Nat} (x : Fin n → EReal) : Fin n → Fin n := sortedFrom fun k k' => BitVec.ofBool (decide (x k' < x k)) == 1#1

theorem ord_inj {n : Nat} (x : Fin n → EReal) : Function.Injective (ord x) := sortedFrom_injective _

theorem ord_surj {n : Nat} (x : Fin n → EReal) : Function.Surjective (ord x) := sortedFrom_surjective _

/-- A later place holds no greater entry. -/
theorem ord_le {n : Nat} (x : Fin n → EReal) {i j : Fin n} (h : i ≤ j) : x (ord x j) ≤ x (ord x i) := by
  rcases eq_or_lt_of_le h with rfl | h
  · exact le_rfl
  have e : ∀ a b : Fin n, (BitVec.ofBool (decide (x b < x a)) == 1#1) = decide (x b < x a) := by
    intro a b
    by_cases h : x b < x a <;> simp [h]
  have := sortedFrom_noInversion (fun k k' => BitVec.ofBool (decide (x k' < x k)) == 1#1) (fun k k' => BitVec.ofBool (decide (x k' < x k)) == 1#1)
    (fun a b hab => by rw [e] at hab ⊢; simpa using (of_decide_eq_true hab).le)
    (fun a b hab => hab)
    (fun a b c h1 h2 => by rw [e] at h1 h2 ⊢; simp only [decide_eq_false_iff_not, not_lt] at *; exact le_trans h1 h2) i j h
  rw [e] at this
  exact not_lt.mp (of_decide_eq_false this)

/-- The three positions a row's first places come from. -/
def three {n : Nat} (x : Fin n → EReal) (hn : 4 ≤ n) : Finset (Fin n) :=
  Finset.univ.image fun j : Fin 3 => ord x ⟨j.val, by omega⟩

theorem three_card {n : Nat} (x : Fin n → EReal) (hn : 4 ≤ n) : (three x hn).card = 3 := by
  unfold three
  rw [Finset.card_image_of_injective _ fun a b h => Fin.ext (by simpa using congrArg Fin.val (ord_inj x h))]
  rfl

/-- Summing over the three positions is summing over the three places. -/
theorem sum_three {n : Nat} (x : Fin n → EReal) (hn : 4 ≤ n) (f : Fin n → EReal) :
    ∑ s ∈ three x hn, f s = ∑ j : Fin 3, f (ord x ⟨j.val, by omega⟩) := by
  unfold three
  rw [Finset.sum_image fun a _ b _ h => Fin.ext (by simpa using congrArg Fin.val (ord_inj x h))]

/-- When the third is strictly greater than the fourth, the three are the entries no less than the third. -/
theorem mem_three {n : Nat} (x : Fin n → EReal) (hn : 4 ≤ n)
    (h : x (ord x ⟨3, by omega⟩) < x (ord x ⟨2, by omega⟩)) (s : Fin n) :
    s ∈ three x hn ↔ x (ord x ⟨2, by omega⟩) ≤ x s := by
  constructor
  · intro hs
    obtain ⟨j, -, rfl⟩ := Finset.mem_image.mp hs
    exact ord_le x (Fin.mk_le_mk.mpr (by omega))
  · intro hs
    obtain ⟨k, rfl⟩ := ord_surj x s
    by_cases hk : k.val < 3
    · exact Finset.mem_image.mpr ⟨⟨k.val, hk⟩, Finset.mem_univ _, rfl⟩
    · exact absurd (le_trans hs (ord_le x (Fin.mk_le_mk.mpr (by omega : 3 ≤ k.val)))) (not_le.mpr h)

/-- Going along a row changes the column alone. -/
theorem along_row {A n : Nat} (q : Fin A) (p k : Fin n) :
    Shape.Idx.along (s := ⟨2, ![A, n]⟩) (ix2 q p) 1 k = ix2 q k := by
  funext a
  match a with
  | ⟨0, _⟩ => rfl
  | ⟨1, _⟩ => rfl

/-- Where a row's sort takes a place from. -/
theorem place_row {A n : Nat} (x : FVec Ideal ⟨2, ![A, n]⟩ .f32) (q : Fin A) (p : Fin n) :
    sortedFrom (fun k k' : Fin n => FloatOps.cmpfTotal (F := Ideal) (φ := .f32) .gt (x (Shape.Idx.along (s := ⟨2, ![A, n]⟩) (ix2 q p) 1 k))
      (x (Shape.Idx.along (s := ⟨2, ![A, n]⟩) (ix2 q p) 1 k')) == 1#1) p = ord (fun s => x (ix2 q s)) p := by
  unfold ord
  congr 1
  funext k k'
  rw [along_row, along_row]
  rfl

/-- A place of the cut-down array is the same place of the whole one. -/
theorem cut_place {A n k : Nat} (hk : k ≤ n) (h : (⟨2, ![A, n]⟩ : Shape).Slices (fun _ => 0) ⟨2, ![A, k]⟩) {α : Type}
    (v : (⟨2, ![A, n]⟩ : Shape).Idx → α) (q : Fin A) (j : Fin k) :
    extractStridedSlice ⟨2, ![A, k]⟩ (fun _ => 0) v h (ix2 q j) = v (ix2 q ⟨j.val, by omega⟩) := by
  unfold extractStridedSlice
  congr 1
  funext a
  apply Fin.ext
  match a with
  | ⟨0, _⟩ => exact Nat.zero_add _
  | ⟨1, _⟩ => exact Nat.zero_add _

/-- A row's top entries. -/
theorem topK_value {A n k : Nat} (hk : k ≤ n) (x : FVec Ideal ⟨2, ![A, n]⟩ .f32) (h : (⟨2, ![A, n]⟩ : Shape).Slices (fun _ => 0) ⟨2, ![A, k]⟩)
    (q : Fin A) (j : Fin k) :
    (Host.topK ⟨2, ![A, k]⟩ 1 (FloatOps.cmpfTotal .gt) x h).1 (ix2 q j) = x (ix2 q (ord (fun s => x (ix2 q s)) ⟨j.val, by omega⟩)) := by
  unfold Host.topK Host.sort2
  dsimp only
  rw [cut_place hk, dif_pos (by norm_num : 1 < 2)]
  exact (congrArg (fun p => x (Shape.Idx.along (s := ⟨2, ![A, n]⟩) (ix2 q ⟨j.val, by omega⟩) 1 p)) (place_row x q ⟨j.val, by omega⟩)).trans
    (congrArg x (along_row _ _ _))

/-- The positions of a row's top entries. -/
theorem topK_index {A n k : Nat} (hk : k ≤ n) (x : FVec Ideal ⟨2, ![A, n]⟩ .f32) (h : (⟨2, ![A, n]⟩ : Shape).Slices (fun _ => 0) ⟨2, ![A, k]⟩)
    (q : Fin A) (j : Fin k) :
    (Host.topK ⟨2, ![A, k]⟩ 1 (FloatOps.cmpfTotal .gt) x h).2 (ix2 q j) = BitVec.ofNat 32 (ord (fun s => x (ix2 q s)) ⟨j.val, by omega⟩).val := by
  unfold Host.topK Host.sort2
  dsimp only
  rw [cut_place hk, dif_pos (by norm_num : 1 < 2)]
  dsimp only
  rw [dif_pos (by norm_num : 1 < 2)]
  exact congrArg (fun p : Fin n => BitVec.ofNat 32 p.val) (place_row x q ⟨j.val, by omega⟩)

end Cert.Order
-- ==== Proof.Reference.lean ====
module

public import proofs.«01_k».proof.ReferenceIdeal
public import proofs.«01_k».proof.Proof.Gen.ReferenceIdeal
public import proofs.«01_k».proof.Proof.Gen.ReferenceIdeal.Run
public import proofs.«01_k».proof.Proof.Order
public import Idealize.ShloMosaic.Lib.ReduceAll
public import Idealize.ShloMosaic.Lib.ValueIdxCore

@[expose] public section

set_option maxRecDepth 16384

noncomputable section

/-! # The reference, read at an element

The reference's result in stages: masked distances, the three nearest, their weights and features, the weighted mean, and the
two layers; each stage is read at one element. -/

namespace Cert.ReferenceIdeal.Proof

open Idealize.ShloMosaic Idealize.ShloMosaic.TcCoe
open Idealize.SL.Sem
open Cert.ReferenceIdeal.Gen Cert.Order

/-- The negated masked squared distance of source `s` from query `q`. -/
def negEntry (P : S4096x3.Idx → EReal) (Q : S8192x3.Idx → EReal) (B : S4096.Idx → BitVec 32) (C : S8192.Idx → BitVec 32) (q : Fin 8192)
    (s : Fin 4096) : EReal :=
  -(if C (ix1 q) = B (ix1 s) then ∑ k : Fin 3, (Q (ix2 q k) - P (ix2 s k)) * (Q (ix2 q k) - P (ix2 s k))
    else Ideal.ofBits .f32 0x501502F9#32)

/-- The weight of a squared distance. -/
def wt (v : EReal) : EReal := Ideal.div 1 (max v (Ideal.ofBits .f32 0x24E69595#32))

/-- The two layers on a row of features, at an output channel. -/
def layers (y : Fin 512 → EReal) (xs : Fin 128 → EReal) (W1 : S640x512.Idx → EReal) (b1 : S512.Idx → EReal) (W2 : S512x256.Idx → EReal)
    (b2 : S256.Idx → EReal) (o : Fin 256) : EReal :=
  (∑ h : Fin 512, max ((∑ c : Fin 512, y c * W1 (ix2 ⟨c.val, by omega⟩ h) + ∑ c : Fin 128, xs c * W1 (ix2 ⟨512 + c.val, by omega⟩ h))
    + b1 (ix1 h)) 0 * W2 (ix2 h o)) + b2 (ix1 o)

/-- The matrix of negated masked squared distances. -/
def negd (P : FVec Ideal S4096x3 .f32) (Q : FVec Ideal S8192x3 .f32) (B : IVec S4096 32) (C : IVec S8192 32) : FVec Ideal S8192x4096 .f32 :=
  Host.negf (select (cmpi .ne (broadcastInDim S8192x4096 ![0, 1] bcast_S8192x1_S8192x4096_0_1 (broadcastInDim S8192x1 ![0] bcast_S8192_S8192x1_0 C))
  (broadcastInDim S8192x4096 ![0, 1] bcast_S1x4096_S8192x4096_0_1 (broadcastInDim S1x4096 ![1] bcast_S4096_S1x4096_1 B))) (broadcastInDim S8192x4096 ![]
  bcast_S_S8192x4096 (constant S_ .f32 0x501502F9#32)) (Host.reduceAdd (mulf (subf (broadcastInDim S8192x4096x3 ![0, 1, 2]
  bcast_S8192x1x3_S8192x4096x3_0_1_2 (broadcastInDim S8192x1x3 ![0, 2] bcast_S8192x3_S8192x1x3_0_2 Q)) (broadcastInDim S8192x4096x3 ![0, 1, 2]
  bcast_S1x4096x3_S8192x4096x3_0_1_2 (broadcastInDim S1x4096x3 ![1, 2] bcast_S4096x3_S1x4096x3_1_2 P))) (subf (broadcastInDim S8192x4096x3 ![0, 1, 2]
  bcast_S8192x1x3_S8192x4096x3_0_1_2 (broadcastInDim S8192x1x3 ![0, 2] bcast_S8192x3_S8192x1x3_0_2 Q)) (broadcastInDim S8192x4096x3 ![0, 1, 2]
  bcast_S1x4096x3_S8192x4096x3_0_1_2 (broadcastInDim S1x4096x3 ![1, 2] bcast_S4096x3_S1x4096x3_1_2 P)))) (constant S_ .f32 0x00000000#32)
  reducesTo_S8192x4096x3_S8192x4096_d2 h_S_))

/-- The three places' positions, as gather indices. -/
def places (i : IVec S8192x3 32) : IVec S8192x3x1 32 :=
  broadcastInDim S8192x3x1 ![0, 1] bcast_S8192x3_S8192x3x1_0_1 (select (cmpi .slt i (broadcastInDim S8192x3 ![] bcast_S_S8192x3 (constantI S_ 32 0#32)))
  (addi i (broadcastInDim S8192x3 ![] bcast_S_S8192x3 (constantI S_ 32 4096#32))) i)

/-- The three places' weights. -/
def weights (v : FVec Ideal S8192x3 .f32) : FVec Ideal S8192x3 .f32 :=
  Host.divf (broadcastInDim S8192x3 ![] bcast_S_S8192x3 (constant S_ .f32 0x3F800000#32)) (maximumf (Host.negf v) (broadcastInDim S8192x3 ![]
  bcast_S_S8192x3 (constant S_ .f32 0x24E69595#32)))

/-- The three places' features. -/
def taken (X : FVec Ideal S4096x512 .f32) (p : IVec S8192x3x1 32) : FVec Ideal S8192x3x512 .f32 :=
  select (broadcastInDim S8192x3x512 ![0, 1] bcast_S8192x3_S8192x3x512_0_1 (Host.reduce IntOp.andi (andi (cmpi .sge p (broadcastInDim S8192x3x1 ![]
  bcast_S_S8192x3x1 (constantI S_ 32 0#32))) (cmpi .sle p (broadcastInDim S8192x3x1 ![0, 1, 2] bcast_S1x1x1_S8192x3x1_0_1_2 (broadcastInDim S1x1x1 ![2]
  bcast_S1_S1x1x1_2 (constantI S1 32 4095#32))))) (constantI S_ 1 1#1) reducesTo_S8192x3x1_S8192x3_d2 h_S_)) (Host.gather
  gather_S4096x512_S8192x3x1_S8192x3x512_2_0_n_n_0_2_1512 X p) (broadcastInDim S8192x3x512 ![] bcast_S_S8192x3x512 (constant S_ .f32 0x7FC00000#32))

/-- The weighted mean of the three places' features. -/
def mean (g : FVec Ideal S8192x3x512 .f32) (w : FVec Ideal S8192x3 .f32) : FVec Ideal S8192x512 .f32 :=
  Host.divf (Host.reduceAdd (mulf g (broadcastInDim S8192x3x512 ![0, 1, 2] bcast_S8192x3x1_S8192x3x512_0_1_2 (broadcastInDim S8192x3x1 ![0, 1]
  bcast_S8192x3_S8192x3x1_0_1 w))) (constant S_ .f32 0x00000000#32) reducesTo_S8192x3x512_S8192x512_d1 h_S_) (broadcastInDim S8192x512 ![0, 1]
  bcast_S8192x1_S8192x512_0_1 (broadcastInDim S8192x1 ![0] bcast_S8192_S8192x1_0 (Host.reduceAdd w (constant S_ .f32 0x00000000#32)
  reducesTo_S8192x3_S8192_d1 h_S_)))

/-- The two layers. -/
def dense (y : FVec Ideal S8192x512 .f32) (XS : FVec Ideal S8192x128 .f32) (W1 : FVec Ideal S640x512 .f32) (b1 : FVec Ideal S512 .f32)
    (W2 : FVec Ideal S512x256 .f32) (b2 : FVec Ideal S256 .f32) : FVec Ideal S8192x256 .f32 :=
  addf (Host.dotGeneral dot_S8192x512_S512x256_S8192x256_1_0_0_1_n_n none (maximumf (addf (Host.dotGeneral dot_S8192x640_S640x512_S8192x512_1_0_0_1_n_n
  none (concatenate S8192x640 1 [⟨S8192x512, y⟩, ⟨S8192x128, XS⟩] concatenates_S8192x512_S8192x128_S8192x640_d1) W1) (broadcastInDim S8192x512 ![0, 1]
  bcast_S1x512_S8192x512_0_1 (broadcastInDim S1x512 ![1] bcast_S512_S1x512_1 b1))) (broadcastInDim S8192x512 ![] bcast_S_S8192x512 (constant S_ .f32
  0x00000000#32))) W2) (broadcastInDim S8192x256 ![0, 1] bcast_S1x256_S8192x256_0_1 (broadcastInDim S1x256 ![1] bcast_S256_S1x256_1 b2))

theorem negd_apply (P : FVec Ideal S4096x3 .f32) (Q : FVec Ideal S8192x3 .f32) (B : IVec S4096 32) (C : IVec S8192 32) (q : Fin 8192)
    (s : Fin 4096) : negd P Q B C (ix2 q s) = negEntry P Q B C q s := by
  unfold negd negEntry
  simp only [pointwise]
  refine congrArg (fun z : EReal => -z) ?_
  by_cases h : C (ix1 q) = B (ix1 s)
  · rw [if_pos h]
    refine Eq.trans (b := Scalar.select (IntOp.cmpi .ne (C (ix1 q)) (B (ix1 s))) _ _) rfl ?_
    unfold Scalar.select IntOp.cmpi
    rw [if_neg (by simp [h]), zero_add]
    rfl
  · rw [if_neg h]
    refine Eq.trans (b := Scalar.select (IntOp.cmpi .ne (C (ix1 q)) (B (ix1 s))) _ _) rfl ?_
    unfold Scalar.select IntOp.cmpi
    rw [if_pos (by simp [bne_iff_ne.mpr h])]

theorem weights_apply (v : FVec Ideal S8192x3 .f32) (q : Fin 8192) (j : Fin 3) : weights v (ix2 q j) = wt (-(v (ix2 q j))) := by
  unfold weights wt
  simp only [pointwise]

theorem places_apply (i : IVec S8192x3 32) (q : Fin 8192) (j : Fin 3) (z : Fin 1) (s : Fin 4096) (h : i (ix2 q j) = BitVec.ofNat 32 s.val) :
    places i (ix3 q j z) = BitVec.ofNat 32 s.val := by
  unfold places
  simp only [pointwise]
  refine Eq.trans (b := Scalar.select (IntOp.cmpi .slt (i (ix2 q j)) 0#32) (IntOp.addi (i (ix2 q j)) 4096#32) (i (ix2 q j))) rfl ?_
  rw [h]
  have := s.isLt
  have e : (BitVec.ofNat 32 s.val).toInt = s.val := by
    rw [BitVec.toInt_eq_toNat_cond, BitVec.toNat_ofNat, Nat.mod_eq_of_lt (by omega), if_pos (by omega)]
  have h1 : (BitVec.ofNat 32 s.val).slt 0#32 = false := by rw [BitVec.slt_eq_decide, e]; simp
  unfold Scalar.select IntOp.cmpi
  simp [h1]

/-- The gather, read at an element. -/
theorem gather_apply (X : FVec Ideal S4096x512 .f32) (p : IVec S8192x3x1 32) (q : Fin 8192) (j : Fin 3) (h : Fin 512) :
    Host.gather gather_S4096x512_S8192x3x1_S8192x3x512_2_0_n_n_0_2_1512 X p (ix3 q j h)
      = X (ix2 ⟨min (p (ix3 q j 0)).toInt.toNat 4095, by omega⟩ h) := by
  unfold Host.gather
  congr 1
  funext a
  refine Fin.ext ?_
  generalize hd : gather_S4096x512_S8192x3x1_S8192x3x512_2_0_n_n_0_2_1512 = d
  have hsm : d.startIndexMap = [0] := by subst hd; rfl
  have hob : d.operandBatchingDims = [] := by subst hd; rfl
  have hco : d.collapsedSliceDims = [0] := by subst hd; rfl
  show d.start (ix3 q j h) p a + d.batchCoord (ix3 q j h) a + d.offCoord (ix3 q j h) a = _
  rw [GatherDims.batchCoord_eq_zero _ _ _ (by rw [hob]; exact List.not_mem_nil)]
  have h01 : a = 0 ∨ a = 1 := by
    match a with
    | ⟨0, _⟩ => exact Or.inl rfl
    | ⟨1, _⟩ => exact Or.inr rfl
  rcases h01 with rfl | rfl
  · rw [GatherDims.offCoord_eq_zero _ _ _ (fun h => ((GatherDims.mem_sKept _ _).mp h).1 (by rw [hco]; exact List.mem_singleton.mpr rfl))]
    simp only [Nat.add_zero]
    subst hd
    unfold GatherDims.start
    rw [dif_pos (show (0 : Fin 2) ∈ gather_S4096x512_S8192x3x1_S8192x3x512_2_0_n_n_0_2_1512.startIndexMap from List.mem_singleton.mpr rfl)]
    refine congrArg (fun z : S8192x3x1.Idx => min (p z).toInt.toNat 4095) ?_
    funext b; refine Fin.ext ?_
    match b with
    | ⟨0, _⟩ => rfl
    | ⟨1, _⟩ => rfl
    | ⟨2, _⟩ => rfl
  · subst hd
    unfold GatherDims.start
    rw [dif_neg (show (1 : Fin 2) ∉ gather_S4096x512_S8192x3x1_S8192x3x512_2_0_n_n_0_2_1512.startIndexMap from fun h => absurd (List.mem_singleton.mp h) (by decide))]
    rw [Nat.zero_add]
    rfl

theorem taken_apply (X : FVec Ideal S4096x512 .f32) (p : IVec S8192x3x1 32) (hp : ∀ q j z, ∃ s : Fin 4096, p (ix3 q j z) = BitVec.ofNat 32 s.val)
    (q : Fin 8192) (j : Fin 3) (h : Fin 512) (s : Fin 4096) (hs : p (ix3 q j 0) = BitVec.ofNat 32 s.val) :
    taken X p (ix3 q j h) = X (ix2 s h) := by
  unfold taken
  generalize hR : Host.reduce IntOp.andi _ _ _ _ = R
  have ha : ∀ J, R J = 1#1 := by
    intro J
    rw [← hR]
    refine Host.reduce_andi_one _ _ _ _ J rfl fun i => ?_
    rw [ValueIdx.eq_ix3 i]
    obtain ⟨s, hs⟩ := hp (i 0) (i 1) (i 2)
    simp only [pointwise]
    refine (congrArg (fun z => IntOp.andi (IntOp.cmpi .sge z 0#32) (IntOp.cmpi .sle z 4095#32)) hs).trans ?_
    have := s.isLt
    have e : (BitVec.ofNat 32 s.val).toInt = s.val := by
      rw [BitVec.toInt_eq_toNat_cond, BitVec.toNat_ofNat, Nat.mod_eq_of_lt (by omega), if_pos (by omega)]
    unfold IntOp.cmpi IntOp.andi
    have h1 : (0#32).sle (BitVec.ofNat 32 s.val) = true := BitVec.sle_iff_toInt_le.mpr (by rw [e]; simp)
    have h2 : (BitVec.ofNat 32 s.val).sle 4095#32 = true := BitVec.sle_iff_toInt_le.mpr (by rw [e]; simp; omega)
    simp [h1, h2]
  refine (if_pos (ha _)).trans ((gather_apply X p q j h).trans (congrArg X ?_))
  have := s.isLt
  refine congrArg (fun z : Fin 4096 => ix2 z h) (Fin.ext ?_)
  dsimp only
  rw [hs]
  rw [BitVec.toInt_eq_toNat_cond, BitVec.toNat_ofNat, Nat.mod_eq_of_lt (by omega), if_pos (by omega)]
  omega

theorem mean_apply (g : FVec Ideal S8192x3x512 .f32) (w : FVec Ideal S8192x3 .f32) (q : Fin 8192) (h : Fin 512) :
    mean g w (ix2 q h) = Ideal.div (∑ j : Fin 3, g (ix3 q j h) * w (ix2 q j)) (∑ j : Fin 3, w (ix2 q j)) := by
  unfold mean
  simp only [pointwise]
  rw [zero_add, zero_add]
  rfl

theorem dense_apply (y : FVec Ideal S8192x512 .f32) (XS : FVec Ideal S8192x128 .f32) (W1 : FVec Ideal S640x512 .f32) (b1 : FVec Ideal S512 .f32)
    (W2 : FVec Ideal S512x256 .f32) (b2 : FVec Ideal S256 .f32) (q : Fin 8192) (o : Fin 256) :
    dense y XS W1 b1 W2 b2 (ix2 q o) = layers (fun c => y (ix2 q c)) (fun c => XS (ix2 q c)) W1 b1 W2 b2 o := by
  unfold dense layers
  simp only [pointwise]
  rw [zero_add]
  refine congrArg (fun z : EReal => z + b2 (ix1 o)) (Finset.sum_congr rfl fun h _ => ?_)
  rw [zero_add]
  refine congrArg (fun z : EReal => max (z + b1 (ix1 h)) 0 * W2 (ix2 h o)) ?_
  refine congrArg₂ (fun u v : EReal => u + v) (Finset.sum_congr rfl fun c _ => rfl) (Finset.sum_congr rfl fun c _ => ?_)
  refine congrArg (fun z : EReal => z * W1 (ix2 ⟨512 + c.val, by omega⟩ h)) ?_
  rw [dif_neg (fun h => h)]
  refine congrArg XS ?_
  congr 1
  apply Fin.ext
  show (if True then 512 + c.val - 512 else 512 + c.val) = c.val
  rw [if_pos trivial]
  omega

variable (m : (ℓ : Loc nD τ sig) → Buf (Elt Ideal) ℓ) (c : Dev nD)

theorem staged : Cert.ReferenceIdeal.Value.res_main_v37 m c
    = dense (mean (taken (m ((c.tc : Thread nD τ).loc main_arg0)) (places (Host.topK S8192x3 1 (FloatOps.cmpfTotal .gt)
        (negd (m ((c.tc : Thread nD τ).loc main_arg1)) (m ((c.tc : Thread nD τ).loc main_arg4)) (m ((c.tc : Thread nD τ).loc main_arg2)) (m ((c.tc : Thread nD τ).loc main_arg5)))
          sliceFits_S8192x4096_S8192x3).2)) (weights (Host.topK S8192x3 1 (FloatOps.cmpfTotal .gt)
        (negd (m ((c.tc : Thread nD τ).loc main_arg1)) (m ((c.tc : Thread nD τ).loc main_arg4)) (m ((c.tc : Thread nD τ).loc main_arg2)) (m ((c.tc : Thread nD τ).loc main_arg5)))
          sliceFits_S8192x4096_S8192x3).1))
      (m ((c.tc : Thread nD τ).loc main_arg3)) (m ((c.tc : Thread nD τ).loc main_arg6)) (m ((c.tc : Thread nD τ).loc main_arg7)) (m ((c.tc : Thread nD τ).loc main_arg8))
      (m ((c.tc : Thread nD τ).loc main_arg9)) := rfl

end Cert.ReferenceIdeal.Proof
-- ==== Proof.Answer.lean ====
module

public import proofs.«01_k».proof.Proof.Reference

@[expose] public section

set_option maxRecDepth 16384

noncomputable section

/-! # The reference's answer in closed form

One output element is the two layers applied to the weighted mean of the features at the three nearest sources, written as sums over
the set of those three sources. -/

namespace Cert.ReferenceIdeal.Proof

open Idealize.ShloMosaic Idealize.ShloMosaic.TcCoe
open Idealize.SL.Sem
open Cert.ReferenceIdeal.Gen Cert.Order

/-- The three nearest sources of query `q`. -/
def nearest (P : S4096x3.Idx → EReal) (Q : S8192x3.Idx → EReal) (B : S4096.Idx → BitVec 32) (C : S8192.Idx → BitVec 32) (q : Fin 8192) :
    Finset (Fin 4096) := three (negEntry P Q B C q) (by norm_num)

/-- Feature `h` interpolated at query `q`. -/
def blend (X : S4096x512.Idx → EReal) (P : S4096x3.Idx → EReal) (Q : S8192x3.Idx → EReal) (B : S4096.Idx → BitVec 32)
    (C : S8192.Idx → BitVec 32) (q : Fin 8192) (h : Fin 512) : EReal :=
  Ideal.div (∑ s ∈ nearest P Q B C q, X (ix2 s h) * wt (-(negEntry P Q B C q s))) (∑ s ∈ nearest P Q B C q, wt (-(negEntry P Q B C q s)))

section
variable (X : FVec Ideal S4096x512 .f32) (P : FVec Ideal S4096x3 .f32) (Q : FVec Ideal S8192x3 .f32) (B : IVec S4096 32) (C : IVec S8192 32)

/-- The reference's place `j` of row `q` holds this value. -/
theorem value_at (q : Fin 8192) (j : Fin 3) :
    (Host.topK S8192x3 1 (FloatOps.cmpfTotal .gt) (negd P Q B C) sliceFits_S8192x4096_S8192x3).1 (ix2 q j)
      = negEntry P Q B C q (ord (negEntry P Q B C q) ⟨j.val, by omega⟩) := by
  refine (topK_value (A := 8192) (n := 4096) (k := 3) (by norm_num) (negd P Q B C) sliceFits_S8192x4096_S8192x3 q j).trans ?_
  have e : (fun s => negd P Q B C (ix2 q s)) = negEntry P Q B C q := funext fun s => negd_apply P Q B C q s
  rw [negd_apply, e]

/-- The reference's place `j` of row `q` names this source. -/
theorem index_at (q : Fin 8192) (j : Fin 3) :
    (Host.topK S8192x3 1 (FloatOps.cmpfTotal .gt) (negd P Q B C) sliceFits_S8192x4096_S8192x3).2 (ix2 q j)
      = BitVec.ofNat 32 (ord (negEntry P Q B C q) ⟨j.val, by omega⟩).val := by
  refine (topK_index (A := 8192) (n := 4096) (k := 3) (by norm_num) (negd P Q B C) sliceFits_S8192x4096_S8192x3 q j).trans ?_
  have e : (fun s => negd P Q B C (ix2 q s)) = negEntry P Q B C q := funext fun s => negd_apply P Q B C q s
  rw [e]

/-- The reference's interpolated feature is the weighted mean over the three nearest sources. -/
theorem blend_at (q : Fin 8192) (h : Fin 512) :
    mean (taken X (places (Host.topK S8192x3 1 (FloatOps.cmpfTotal .gt) (negd P Q B C) sliceFits_S8192x4096_S8192x3).2))
      (weights (Host.topK S8192x3 1 (FloatOps.cmpfTotal .gt) (negd P Q B C) sliceFits_S8192x4096_S8192x3).1) (ix2 q h) = blend X P Q B C q h := by
  rw [mean_apply]
  unfold blend nearest
  rw [sum_three, sum_three]
  have hw : ∀ j : Fin 3, weights (Host.topK S8192x3 1 (FloatOps.cmpfTotal .gt) (negd P Q B C) sliceFits_S8192x4096_S8192x3).1 (ix2 q j)
      = wt (-(negEntry P Q B C q (ord (negEntry P Q B C q) ⟨j.val, by omega⟩))) := fun j => by
    rw [weights_apply, value_at]
  have hx : ∀ j : Fin 3, taken X (places (Host.topK S8192x3 1 (FloatOps.cmpfTotal .gt) (negd P Q B C) sliceFits_S8192x4096_S8192x3).2) (ix3 q j h)
      = X (ix2 (ord (negEntry P Q B C q) ⟨j.val, by omega⟩) h) := fun j =>
    taken_apply X _ (fun q j z => ⟨_, places_apply _ q j z _ (index_at P Q B C q j)⟩) q j h _ (places_apply _ q j 0 _ (index_at P Q B C q j))
  exact congrArg₂ Ideal.div (Finset.sum_congr rfl fun j _ => congrArg₂ (fun a b : EReal => a * b) (hx j) (hw j)) (Finset.sum_congr rfl fun j _ => hw j)

end

section
variable (m : (ℓ : Loc nD τ sig) → Buf (Elt Ideal) ℓ) (c : Dev nD)

/-- The reference's result at an element. -/
theorem answer_at (q : Fin 8192) (o : Fin 256) : Cert.ReferenceIdeal.Value.res_main_v37 m c (ix2 q o)
    = layers (blend (m ((c.tc : Thread nD τ).loc main_arg0)) (m ((c.tc : Thread nD τ).loc main_arg1)) (m ((c.tc : Thread nD τ).loc main_arg4))
        (m ((c.tc : Thread nD τ).loc main_arg2)) (m ((c.tc : Thread nD τ).loc main_arg5)) q)
      (fun k => m ((c.tc : Thread nD τ).loc main_arg3) (ix2 q k)) (m ((c.tc : Thread nD τ).loc main_arg6)) (m ((c.tc : Thread nD τ).loc main_arg7))
      (m ((c.tc : Thread nD τ).loc main_arg8)) (m ((c.tc : Thread nD τ).loc main_arg9)) o := by
  rw [staged, dense_apply]
  refine congrArg (fun y => layers y _ _ _ _ _ o) (funext fun h => ?_)
  exact blend_at _ _ _ _ _ q h

end

end Cert.ReferenceIdeal.Proof
-- ==== Proof.Mix.lean ====
module

public import proofs.«01_k».proof.Proof.Gather
public import proofs.«01_k».proof.Proof.Answer

@[expose] public section

set_option maxRecDepth 16384

noncomputable section

/-! # Three places as a weighted mean

Three places that hold the three nearest sources, in any order, give the weighted mean over those sources. -/

namespace Cert.Mix

open Idealize.ShloMosaic
open Cert.Select Cert.Words
open Cert.ReferenceIdeal.Proof (wt)
open Cert.KernelIdeal.Proof (pick)

/-! ## The constants -/

/-- The least distance a weight takes. -/
theorem eps_real : ∃ e : ℝ, 0 < e ∧ Ideal.ofBits .f32 0x24E69595#32 = (e : EReal) := by
  refine ⟨(2 ^ 23 + 6722965 : Nat) * (2 : ℝ) ^ ((73 : Int) - 127 - 23), by positivity, ?_⟩
  simp [Ideal.ofBits, Ideal.ieee]

/-- The masked distance is below the distance of a struck-out row. -/
theorem big_dead : Ideal.ofBits .f32 0x501502F9#32 < Ideal.ofBits .f32 0x7F61B1E6#32 := by
  simp [Ideal.ofBits, Ideal.ieee]
  have h : (9765625 : ℝ) * 2 ^ 10 < 14791142 * 2 ^ 104 := by norm_num
  exact_mod_cast h

/-- The masked distance is finite. -/
theorem big_top : Ideal.ofBits .f32 0x501502F9#32 < ⊤ := lt_of_lt_of_le big_dead le_top

/-- A weight is a positive real. -/
theorem wt_real {v : EReal} (hv : v < ⊤) : ∃ w : ℝ, 0 < w ∧ wt v = (w : EReal) := by
  obtain ⟨e, he, h⟩ := eps_real
  unfold wt
  rw [h]
  have h1 : max v (e : EReal) < ⊤ := max_lt hv (EReal.coe_lt_top e)
  have h0 : (e : EReal) ≤ max v (e : EReal) := le_max_right _ _
  generalize max v (e : EReal) = x at *
  induction x with
  | bot => exact absurd h0 (by simp)
  | top => exact absurd h1 (by simp)
  | coe r =>
    have hr : 0 < r := lt_of_lt_of_le he (EReal.coe_le_coe_iff.mp h0)
    exact ⟨1 / r, by positivity, by rw [Ideal.div_coe hr.ne', one_mul]⟩

/-! ## The mean -/

/-- A factor that is a nonnegative real comes out of a sum on the right. -/
theorem sum_mul_right {ι : Type} (T : Finset ι) (f : ι → EReal) {r : ℝ} (hr : 0 ≤ r) : (∑ s ∈ T, f s) * (r : EReal) = ∑ s ∈ T, f s * (r : EReal) := by
  classical
  induction T using Finset.induction_on with
  | empty => simp
  | insert a S ha ih =>
    rw [Finset.sum_insert ha, Finset.sum_insert ha, EReal.right_distrib_of_nonneg_of_ne_top (by exact_mod_cast hr) (EReal.coe_ne_top r), ih]

/-- Dividing each weight by their sum, then weighing, is weighing, then dividing by the sum. -/
theorem mean_eq {ι : Type} (T : Finset ι) (hT : T.Nonempty) (w : ι → EReal) (hw : ∀ s ∈ T, ∃ r : ℝ, 0 < r ∧ w s = (r : EReal)) (x : ι → EReal) :
    ∑ s ∈ T, Ideal.div (w s) (∑ t ∈ T, w t) * x s = Ideal.div (∑ s ∈ T, x s * w s) (∑ t ∈ T, w t) := by
  have hs : ∃ r : ℝ, 0 < r ∧ ∑ t ∈ T, w t = (r : EReal) := by
    choose! g hg using hw
    refine ⟨∑ t ∈ T, g t, Finset.sum_pos (fun s hs => (hg s hs).1) hT, ?_⟩
    rw [Finset.sum_congr rfl fun s hs => (hg s hs).2]
    exact (map_sum (⟨⟨Real.toEReal, rfl⟩, EReal.coe_add⟩ : ℝ →+ EReal) g T).symm
  obtain ⟨r, hr, e⟩ := hs
  rw [e, Ideal.div_coe hr.ne', sum_mul_right _ _ (by positivity)]
  refine Finset.sum_congr rfl fun s _ => ?_
  rw [Ideal.div_coe hr.ne']
  rw [mul_comm (x s), mul_assoc, mul_assoc, mul_comm (x s)]

/-! ## Three places -/

variable (d : Fin 4096 → EReal) (T : Finset (Fin 4096)) (r : Slots) (hr : items r = T.val.map fun s => (d s, (word s : BitVec 32)))
include hr

/-- Summing over the three places is summing over the three sources. -/
theorem sum_items (f : EReal → EReal) : f r.1 + f r.2.2.1 + f r.2.2.2.2.1 = ∑ s ∈ T, f (d s) := by
  have h := congrArg (fun M => (M.map fun x : EReal × BitVec 32 => f x.1).sum) hr
  simp only [Multiset.map_map, Function.comp_def] at h
  refine Eq.trans ?_ h
  simp [items, add_assoc]

/-- A place's word is the word of one of the three sources, whose distance the place holds. -/
theorem mem_items {v : EReal} {i : BitVec 32} (h : (v, i) ∈ items r) : ∃ s ∈ T, d s = v ∧ word s = i := by
  rw [hr, Multiset.mem_map] at h
  obtain ⟨s, hs, e⟩ := h
  exact ⟨s, Finset.mem_val.mp hs, congrArg Prod.fst e, congrArg Prod.snd e⟩

/-- What a source's word picks among the three places. -/
theorem pick_word (f : EReal → EReal) (s : Fin 4096) :
    pick r.2.1 (f r.1) r.2.2.2.1 (f r.2.2.1) r.2.2.2.2.2 (f r.2.2.2.2.1) (word s) = if s ∈ T then f (d s) else 0 := by
  classical
  have key : ∀ v i, (v, i) ∈ items r → word s = i → s ∈ T ∧ d s = v := by
    intro v i h e
    obtain ⟨t, ht, h1, h2⟩ := mem_items d T r hr h
    have : s = t := word_inj (by norm_num) (e.trans h2.symm)
    subst this
    exact ⟨ht, h1⟩
  unfold pick
  by_cases h0 : word s = r.2.1
  · obtain ⟨h, e⟩ := key r.1 r.2.1 (by simp [items]) h0
    rw [if_pos h0, if_pos h, e]
  by_cases h1 : word s = r.2.2.2.1
  · obtain ⟨h, e⟩ := key r.2.2.1 r.2.2.2.1 (by simp [items]) h1
    rw [if_neg h0, if_pos h1, if_pos h, e]
  by_cases h2 : word s = r.2.2.2.2.2
  · obtain ⟨h, e⟩ := key r.2.2.2.2.1 r.2.2.2.2.2 (by simp [items]) h2
    rw [if_neg h0, if_neg h1, if_pos h2, if_pos h, e]
  rw [if_neg h0, if_neg h1, if_neg h2, if_neg]
  intro hs
  have : (d s, (word s : BitVec 32)) ∈ items r := by
    rw [hr, Multiset.mem_map]
    exact ⟨s, Finset.mem_val.mpr hs, rfl⟩
  simp only [items, Multiset.mem_cons, Prod.mk.injEq, Multiset.notMem_zero, or_false] at this
  rcases this with h | h | h
  · exact h0 h.2
  · exact h1 h.2
  · exact h2 h.2

/-- The word of no source picks nothing. -/
theorem pick_none (f : EReal → EReal) : pick r.2.1 (f r.1) r.2.2.2.1 (f r.2.2.1) r.2.2.2.2.2 (f r.2.2.2.2.1) 4294967295#32 = 0 := by
  have key : ∀ v i, (v, i) ∈ items r → (4294967295#32 : BitVec 32) ≠ i := by
    intro v i h e
    obtain ⟨t, -, -, h2⟩ := mem_items d T r hr h
    have := congrArg BitVec.toInt (h2.trans e.symm)
    rw [word_toInt (by norm_num)] at this
    have h3 : (4294967295#32 : BitVec 32).toInt = -1 := by decide
    omega
  unfold pick
  rw [if_neg (key r.1 _ (by simp [items])), if_neg (key r.2.2.1 _ (by simp [items])), if_neg (key r.2.2.2.2.1 _ (by simp [items]))]

/-- The three places, each with its share of the weight, gather the weighted mean over the three sources. -/
theorem gathered (hT : T.card = 3) (hd : ∀ s ∈ T, d s < ⊤) (R : Finset (Fin 4096)) (hR : T ⊆ R) (x : Fin 4096 → EReal) :
    ∑ s ∈ R, pick r.2.1 (Ideal.div (wt r.1) (wt r.1 + wt r.2.2.1 + wt r.2.2.2.2.1)) r.2.2.2.1 (Ideal.div (wt r.2.2.1) (wt r.1 + wt r.2.2.1 + wt r.2.2.2.2.1))
        r.2.2.2.2.2 (Ideal.div (wt r.2.2.2.2.1) (wt r.1 + wt r.2.2.1 + wt r.2.2.2.2.1)) (word s) * x s
      = Ideal.div (∑ s ∈ T, x s * wt (d s)) (∑ s ∈ T, wt (d s)) := by
  classical
  rw [sum_items d T r hr wt]
  rw [← mean_eq T (Finset.card_pos.mp (by omega)) (fun s => wt (d s)) (fun s hs => wt_real (hd s hs)) x]
  rw [← Finset.sum_subset hR]
  · refine Finset.sum_congr rfl fun s hs => ?_
    rw [pick_word d T r hr (fun v => Ideal.div (wt v) (∑ s ∈ T, wt (d s))) s, if_pos hs]
  · intro s _ hs
    rw [pick_word d T r hr (fun v => Ideal.div (wt v) (∑ s ∈ T, wt (d s))) s, if_neg hs, zero_mul]

end Cert.Mix
-- ==== Proof.Block.lean ====
module

public import proofs.«01_k».proof.Proof.Mix
public import proofs.«01_k».proof.Proof.Gen.KernelIdeal.Frame
public import Idealize.ShloMosaic.Lib.VecWindow

@[expose] public section

set_option maxRecDepth 16384

noncomputable section

/-! # One block of the kernel

The body's result at a query and an output channel: the places after the first loop, the features gathered with them, the two
layers. -/

namespace Cert.KernelIdeal.Proof

open Idealize.ShloMosaic Idealize.ShloMosaic.TcCoe
open Idealize.SL.Sem
open Cert.KernelIdeal.Gen Cert.Select Cert.Words
open Cert.ReferenceIdeal.Proof (wt layers)

variable (c : Dev nD) (i : grid0.Coords)
  (arg3 : Memref sig .tc .vmem S3x512 .f32) (harg3 : arg3.IsWhole)
   (arg4 : Memref sig .tc .vmem S512x128 .f32) (harg4 : arg4.IsWhole) (arg5 : Memref sig .tc .vmem S1x1x512 .i32) (harg5 : arg5.IsWhole) (arg6 : Memref sig .tc .vmem S4096x3 .f32) (harg6 : arg6.IsWhole)
   (arg7 : Memref sig .tc .vmem S4096x1 .i32) (harg7 : arg7.IsWhole) (arg8 : Memref sig .tc .vmem S4096x512 .f32) (harg8 : arg8.IsWhole) (arg9 : Memref sig .tc .vmem S640x512 .f32) (harg9 : arg9.IsWhole)
   (arg10 : Memref sig .tc .vmem S1x512 .f32) (harg10 : arg10.IsWhole) (arg11 : Memref sig .tc .vmem S512x256 .f32) (harg11 : arg11.IsWhole) (arg12 : Memref sig .tc .vmem S1x256 .f32) (harg12 : arg12.IsWhole)
   (arg13 : Memref sig .tc .vmem S512x256 .f32) (harg13 : arg13.IsWhole)

/-- The row numbers of a tile, down the rows and along the columns. -/
abbrev rowsDown : IVec S576x512 32 := iota .tc S576x512 32 [0] iota_S576x512_d0_w32
abbrev rowsAlong : IVec S512x576 32 := iota .tc S512x576 32 [1] iota_S512x576_d1_w32

theorem rowsDown_apply (k : Fin 576) (q : Fin 512) : rowsDown (ix2 k q) = BitVec.ofNat 32 k.val := by
  unfold rowsDown
  simp only [pointwise]
  show BitVec.ofNat 32 (0 * 576 + k.val) = _
  rw [Nat.zero_mul, Nat.zero_add]
theorem rowsAlong_apply (q : Fin 512) (k : Fin 576) : rowsAlong (ix2 q k) = BitVec.ofNat 32 k.val := by
  unfold rowsAlong
  simp only [pointwise]
  show BitVec.ofNat 32 (0 * 576 + k.val) = _
  rw [Nat.zero_mul, Nat.zero_add]

/-- The two layers at an element. -/
theorem mlp_apply (Y : FVec Ideal S512x512 .f32) (v52 : Vec Ideal S512x128 .f32) (v53 : Vec Ideal S512x512 .f32) (v55 : Vec Ideal S128x512 .f32)
    (v58 : Vec Ideal S1x512 .f32) (v64 : Vec Ideal S512x256 .f32) (v66 : Vec Ideal S1x256 .f32) (q : Fin 512) (o : Fin 256) :
    k0_pay113 (F := Ideal) Y v52 v53 v55 v58 v64 v66 (ix2 q o)
      = (∑ h : Fin 512, max ((∑ k : Fin 512, (Y (ix2 q k) : EReal) * v53 (ix2 k h) + ∑ k : Fin 128, (v52 (ix2 q k) : EReal) * v55 (ix2 k h))
          + v58 (ix2 0 h)) 0 * v64 (ix2 h o)) + v66 (ix2 0 o) := by
  unfold k0_pay113
  simp only [pointwise]
  simp only [zero_add]
  rfl

theorem steps1 (T : Fin 9) : Scf.trips (k0_t1_loop (BitVec.ofNat 32 T.val)).lb (k0_t1_loop (BitVec.ofNat 32 T.val)).ub (k0_t1_loop (BitVec.ofNat 32 T.val)).st = T.val := trips1 T
theorem steps2 (v : BitVec 32) : Scf.trips (k0_t2_loop v).lb (k0_t2_loop v).ub (k0_t2_loop v).st = 0 := trips2 v
theorem steps3 (T : Fin 9) : Scf.trips (k0_t3_loop (BitVec.ofNat 32 T.val)).lb (k0_t3_loop (BitVec.ofNat 32 T.val)).ub (k0_t3_loop (BitVec.ofNat 32 T.val)).st = T.val := trips3 T
theorem steps4 (v : BitVec 32) : Scf.trips (k0_t4_loop v).lb (k0_t4_loop v).ub (k0_t4_loop v).st = 0 := trips4 v

/-- The six carried rows after the loops that choose the places. -/
def chosen (u v z : BitVec 32) (hw : k0_chk1 u v) (v4 : Vec Ideal S1x1x512 .i32) (v6 v8 v10 : Vec Ideal S1x512 .f32)
    (P : Vec Ideal S4096x3 .f32) (B : Vec Ideal S4096x1 .i32) :
    FVec Ideal S512 .f32 × IVec S512 32 × FVec Ideal S512 .f32 × IVec S512 32 × FVec Ideal S512 .f32 × IVec S512 32 :=
  st_k0_t2 (F := Ideal) Variants.none c none i tbM0_0 htbM0_0 tbM0_1 htbM0_1 arg3 harg3 arg4 harg4 arg5 harg5 arg6 harg6 arg7 harg7 arg8 harg8 arg9 harg9 arg10 harg10 arg11 harg11 arg12 harg12 arg13 harg13 u v hw v4 v6 v8 v10 rowsDown z (harg6.unread P) (harg7.unread B)
    (st_k0_t1 (F := Ideal) Variants.none c none i tbM0_0 htbM0_0 tbM0_1 htbM0_1 arg3 harg3 arg4 harg4 arg5 harg5 arg6 harg6 arg7 harg7 arg8 harg8 arg9 harg9 arg10 harg10 arg11 harg11 arg12 harg12 arg13 harg13 u v hw v4 v6 v8 v10 rowsDown (harg6.unread P) (harg7.unread B)
      (k0_pay69, k0_pay70, k0_pay71, k0_pay72, k0_pay73, k0_pay74) (Scf.trips (k0_t1_loop v).lb (k0_t1_loop v).ub (k0_t1_loop v).st)) (Scf.trips (k0_t2_loop v).lb (k0_t2_loop v).ub (k0_t2_loop v).st)

/-- The features gathered with the carried rows `s`. -/
def feats (u v : BitVec 32) (hw : k0_chk1 u v)
    (s : FVec Ideal S512 .f32 × IVec S512 32 × FVec Ideal S512 .f32 × IVec S512 32 × FVec Ideal S512 .f32 × IVec S512 32)
    (X : Vec Ideal S4096x512 .f32) : FVec Ideal S512x512 .f32 :=
  st_k0_t4 (F := Ideal) Variants.none c none i tbM0_0 htbM0_0 tbM0_1 htbM0_1 arg3 harg3 arg4 harg4 arg5 harg5 arg6 harg6 arg7 harg7 arg8 harg8 arg9 harg9 arg10 harg10 arg11 harg11 arg12 harg12 arg13 harg13 u v hw rowsAlong s.2.1 s.2.2.2.1 s.2.2.2.2.1 s.2.2.2.2.2 (k0_pay103 s.1) (k0_pay104 s.2.2.1) (harg8.unread X)
    (st_k0_t3 (F := Ideal) Variants.none c none i tbM0_0 htbM0_0 tbM0_1 htbM0_1 arg3 harg3 arg4 harg4 arg5 harg5 arg6 harg6 arg7 harg7 arg8 harg8 arg9 harg9 arg10 harg10 arg11 harg11 arg12 harg12 arg13 harg13 u v hw rowsAlong s.2.1 s.2.2.2.1 s.2.2.2.2.1 s.2.2.2.2.2 (k0_pay103 s.1) (k0_pay104 s.2.2.1) (harg8.unread X)
      k0_pay110 (Scf.trips (k0_t3_loop v).lb (k0_t3_loop v).ub (k0_t3_loop v).st)) (Scf.trips (k0_t4_loop v).lb (k0_t4_loop v).ub (k0_t4_loop v).st)

theorem hz2 : (![0, 0] : Fin 2 → Nat) = fun _ => 0 := funext fun a => by fin_cases a <;> rfl
theorem hz3 : (![0, 0, 0] : Fin 3 → Nat) = fun _ => 0 := funext fun a => by fin_cases a <;> rfl

section
variable (x0 : Vec Ideal S3x512 .f32) (x1 : Vec Ideal S512x128 .f32) (x2 : Vec Ideal S1x1x512 .i32) (x3 : Vec Ideal S4096x3 .f32) (x4 : Vec Ideal S4096x1 .i32) (x5 : Vec Ideal S4096x512 .f32) (x6 : Vec Ideal S640x512 .f32) (x7 : Vec Ideal S1x512 .f32) (x8 : Vec Ideal S512x256 .f32) (x9 : Vec Ideal S1x256 .f32)

/-- The rows the body loads. -/
abbrev ld4 : Vec Ideal S1x1x512 .i32 := View.readAt (Elt Ideal) arg5.view (Rect.unit ![0, 0, 0] S1x1x512.size inb_S1x1x512_S1x1x512_0_0_0).toLoadRect (harg5.unread x2)
abbrev ld6 : Vec Ideal S1x512 .f32 := View.readAt (Elt Ideal) arg3.view (Rect.unit (s := S3x512) ![0, 0] S1x512.size inb_S3x512_S1x512_0_0).toLoadRect (harg3.unread x0)
abbrev ld8 : Vec Ideal S1x512 .f32 := View.readAt (Elt Ideal) arg3.view (Rect.unit (s := S3x512) ![1, 0] S1x512.size inb_S3x512_S1x512_1_0).toLoadRect (harg3.unread x0)
abbrev ld10 : Vec Ideal S1x512 .f32 := View.readAt (Elt Ideal) arg3.view (Rect.unit (s := S3x512) ![2, 0] S1x512.size inb_S3x512_S1x512_2_0).toLoadRect (harg3.unread x0)

/-- The body's result, of the two words it reads. -/
def blockOf (u v z : BitVec 32) (hw : k0_chk1 u v) : FVec Ideal S512x256 .f32 :=
  k0_pay113 (feats c i arg3 harg3 arg4 harg4 arg5 harg5 arg6 harg6 arg7 harg7 arg8 harg8 arg9 harg9 arg10 harg10 arg11 harg11 arg12 harg12 arg13 harg13 u v hw (chosen c i arg3 harg3 arg4 harg4 arg5 harg5 arg6 harg6 arg7 harg7 arg8 harg8 arg9 harg9 arg10 harg10 arg11 harg11 arg12 harg12 arg13 harg13 u v z hw (ld4 arg5 harg5 x2) (ld6 arg3 harg3 x0) (ld8 arg3 harg3 x0) (ld10 arg3 harg3 x0) x3 x4) x5)
    (View.readAt (Elt Ideal) arg4.view (Rect.unit ![0, 0] S512x128.size inb_S512x128_S512x128_0_0).toLoadRect (harg4.unread x1))
    (View.readAt (Elt Ideal) arg9.view (Rect.unit (s := S640x512) ![0, 0] S512x512.size inb_S640x512_S512x512_0_0).toLoadRect (harg9.unread x6))
    (View.readAt (Elt Ideal) arg9.view (Rect.unit (s := S640x512) ![512, 0] S128x512.size inb_S640x512_S128x512_512_0).toLoadRect (harg9.unread x6))
    (View.readAt (Elt Ideal) arg10.view (Rect.unit ![0, 0] S1x512.size inb_S1x512_S1x512_0_0).toLoadRect (harg10.unread x7))
    (View.readAt (Elt Ideal) arg11.view (Rect.unit ![0, 0] S512x256.size inb_S512x256_S512x256_0_0).toLoadRect (harg11.unread x8))
    (View.readAt (Elt Ideal) arg12.view (Rect.unit ![0, 0] S1x256.size inb_S1x256_S1x256_0_0).toLoadRect (harg12.unread x9))

/-! The run's values are the body's. -/

theorem r2 (xt0 : TbBuf0 (F := Ideal) c tbM0_0) (xt1 : TbBuf0 (F := Ideal) c tbM0_1) (hw) :
    kernelRun0_A.sl.r_2 (F := Ideal) c i arg3 harg3 arg4 harg4 arg5 harg5 arg6 harg6 arg7 harg7 arg8 harg8 arg9 harg9 arg10 harg10 arg11 harg11 arg12 harg12 arg13 harg13 x0 x2 x3 x4 xt0 xt1 hw = (chosen c i arg3 harg3 arg4 harg4 arg5 harg5 arg6 harg6 arg7 harg7 arg8 harg8 arg9 harg9 arg10 harg10 arg11 harg11 arg12 harg12 arg13 harg13 (kernelRun0_A.sl.r c i xt0) (kernelRun0_A.sl.r_1 c i xt1) (kernelRun0_A.sl.v24 c i xt1) hw (ld4 arg5 harg5 x2) (ld6 arg3 harg3 x0) (ld8 arg3 harg3 x0) (ld10 arg3 harg3 x0) x3 x4).2.1 := by
  unfold kernelRun0_A.sl.r_2
  rfl

theorem r3 (xt0 : TbBuf0 (F := Ideal) c tbM0_0) (xt1 : TbBuf0 (F := Ideal) c tbM0_1) (hw) :
    kernelRun0_A.sl.r_3 (F := Ideal) c i arg3 harg3 arg4 harg4 arg5 harg5 arg6 harg6 arg7 harg7 arg8 harg8 arg9 harg9 arg10 harg10 arg11 harg11 arg12 harg12 arg13 harg13 x0 x2 x3 x4 xt0 xt1 hw = (chosen c i arg3 harg3 arg4 harg4 arg5 harg5 arg6 harg6 arg7 harg7 arg8 harg8 arg9 harg9 arg10 harg10 arg11 harg11 arg12 harg12 arg13 harg13 (kernelRun0_A.sl.r c i xt0) (kernelRun0_A.sl.r_1 c i xt1) (kernelRun0_A.sl.v24 c i xt1) hw (ld4 arg5 harg5 x2) (ld6 arg3 harg3 x0) (ld8 arg3 harg3 x0) (ld10 arg3 harg3 x0) x3 x4).2.2.2.1 := by
  unfold kernelRun0_A.sl.r_3
  rfl

theorem r4 (xt0 : TbBuf0 (F := Ideal) c tbM0_0) (xt1 : TbBuf0 (F := Ideal) c tbM0_1) (hw) :
    kernelRun0_A.sl.r_4 (F := Ideal) c i arg3 harg3 arg4 harg4 arg5 harg5 arg6 harg6 arg7 harg7 arg8 harg8 arg9 harg9 arg10 harg10 arg11 harg11 arg12 harg12 arg13 harg13 x0 x2 x3 x4 xt0 xt1 hw = (chosen c i arg3 harg3 arg4 harg4 arg5 harg5 arg6 harg6 arg7 harg7 arg8 harg8 arg9 harg9 arg10 harg10 arg11 harg11 arg12 harg12 arg13 harg13 (kernelRun0_A.sl.r c i xt0) (kernelRun0_A.sl.r_1 c i xt1) (kernelRun0_A.sl.v24 c i xt1) hw (ld4 arg5 harg5 x2) (ld6 arg3 harg3 x0) (ld8 arg3 harg3 x0) (ld10 arg3 harg3 x0) x3 x4).2.2.2.2.1 := by
  unfold kernelRun0_A.sl.r_4
  rfl

theorem r5 (xt0 : TbBuf0 (F := Ideal) c tbM0_0) (xt1 : TbBuf0 (F := Ideal) c tbM0_1) (hw) :
    kernelRun0_A.sl.r_5 (F := Ideal) c i arg3 harg3 arg4 harg4 arg5 harg5 arg6 harg6 arg7 harg7 arg8 harg8 arg9 harg9 arg10 harg10 arg11 harg11 arg12 harg12 arg13 harg13 x0 x2 x3 x4 xt0 xt1 hw = (chosen c i arg3 harg3 arg4 harg4 arg5 harg5 arg6 harg6 arg7 harg7 arg8 harg8 arg9 harg9 arg10 harg10 arg11 harg11 arg12 harg12 arg13 harg13 (kernelRun0_A.sl.r c i xt0) (kernelRun0_A.sl.r_1 c i xt1) (kernelRun0_A.sl.v24 c i xt1) hw (ld4 arg5 harg5 x2) (ld6 arg3 harg3 x0) (ld8 arg3 harg3 x0) (ld10 arg3 harg3 x0) x3 x4).2.2.2.2.2 := by
  unfold kernelRun0_A.sl.r_5
  rfl

theorem r6 (xt0 : TbBuf0 (F := Ideal) c tbM0_0) (xt1 : TbBuf0 (F := Ideal) c tbM0_1) (hw) :
    kernelRun0_A.sl.r_6 (F := Ideal) c i arg3 harg3 arg4 harg4 arg5 harg5 arg6 harg6 arg7 harg7 arg8 harg8 arg9 harg9 arg10 harg10 arg11 harg11 arg12 harg12 arg13 harg13 x0 x2 x3 x4 xt0 xt1 hw = k0_pay103 (chosen c i arg3 harg3 arg4 harg4 arg5 harg5 arg6 harg6 arg7 harg7 arg8 harg8 arg9 harg9 arg10 harg10 arg11 harg11 arg12 harg12 arg13 harg13 (kernelRun0_A.sl.r c i xt0) (kernelRun0_A.sl.r_1 c i xt1) (kernelRun0_A.sl.v24 c i xt1) hw (ld4 arg5 harg5 x2) (ld6 arg3 harg3 x0) (ld8 arg3 harg3 x0) (ld10 arg3 harg3 x0) x3 x4).1 := by
  unfold kernelRun0_A.sl.r_6
  rfl

theorem r7 (xt0 : TbBuf0 (F := Ideal) c tbM0_0) (xt1 : TbBuf0 (F := Ideal) c tbM0_1) (hw) :
    kernelRun0_A.sl.r_7 (F := Ideal) c i arg3 harg3 arg4 harg4 arg5 harg5 arg6 harg6 arg7 harg7 arg8 harg8 arg9 harg9 arg10 harg10 arg11 harg11 arg12 harg12 arg13 harg13 x0 x2 x3 x4 xt0 xt1 hw = k0_pay104 (chosen c i arg3 harg3 arg4 harg4 arg5 harg5 arg6 harg6 arg7 harg7 arg8 harg8 arg9 harg9 arg10 harg10 arg11 harg11 arg12 harg12 arg13 harg13 (kernelRun0_A.sl.r c i xt0) (kernelRun0_A.sl.r_1 c i xt1) (kernelRun0_A.sl.v24 c i xt1) hw (ld4 arg5 harg5 x2) (ld6 arg3 harg3 x0) (ld8 arg3 harg3 x0) (ld10 arg3 harg3 x0) x3 x4).2.2.1 := by
  unfold kernelRun0_A.sl.r_7
  rfl

theorem r8 (xt0 : TbBuf0 (F := Ideal) c tbM0_0) (xt1 : TbBuf0 (F := Ideal) c tbM0_1) (hw) :
    kernelRun0_A.sl.r_8 (F := Ideal) c i arg3 harg3 arg4 harg4 arg5 harg5 arg6 harg6 arg7 harg7 arg8 harg8 arg9 harg9 arg10 harg10 arg11 harg11 arg12 harg12 arg13 harg13 x0 x1 x2 x3 x4 x5 x6 x7 x8 x9 xt0 xt1 hw
      = blockOf c i arg3 harg3 arg4 harg4 arg5 harg5 arg6 harg6 arg7 harg7 arg8 harg8 arg9 harg9 arg10 harg10 arg11 harg11 arg12 harg12 arg13 harg13 x0 x1 x2 x3 x4 x5 x6 x7 x8 x9 (kernelRun0_A.sl.r c i xt0) (kernelRun0_A.sl.r_1 c i xt1) (kernelRun0_A.sl.v24 c i xt1) hw := by
  unfold kernelRun0_A.sl.r_8
  rw [r2, r3, r4, r5, r6, r7]
  rfl

/-- What the run leaves in the result's staging buffer is the body's result. -/
theorem out_eq (xt0 : TbBuf0 (F := Ideal) c tbM0_0) (xt1 : TbBuf0 (F := Ideal) c tbM0_1) (hw) :
    out0_A_10 (F := Ideal) c i arg3 harg3 arg4 harg4 arg5 harg5 arg6 harg6 arg7 harg7 arg8 harg8 arg9 harg9 arg10 harg10 arg11 harg11 arg12 harg12 arg13 harg13 x0 x1 x2 x3 x4 x5 x6 x7 x8 x9 xt0 xt1 hw
      = blockOf c i arg3 harg3 arg4 harg4 arg5 harg5 arg6 harg6 arg7 harg7 arg8 harg8 arg9 harg9 arg10 harg10 arg11 harg11 arg12 harg12 arg13 harg13 x0 x1 x2 x3 x4 x5 x6 x7 x8 x9 (kernelRun0_A.sl.r c i xt0) (kernelRun0_A.sl.r_1 c i xt1) (kernelRun0_A.sl.v24 c i xt1) hw := by
  unfold out0_A_10
  unfold kernelRun0_A
  dsimp only
  refine (View.read_writes_full (Val := Elt Ideal) VO0_10 VO0_10.junk inb_S512x256_S512x256_0_0 (kernelRun0_A.sl.r_8 (F := Ideal) c i arg3 harg3 arg4 harg4 arg5 harg5 arg6 harg6 arg7 harg7 arg8 harg8 arg9 harg9 arg10 harg10 arg11 harg11 arg12 harg12 arg13 harg13 x0 x1 x2 x3 x4 x5 x6 x7 x8 x9 xt0 xt1 hw) []).trans ?_
  exact r8 c i arg3 harg3 arg4 harg4 arg5 harg5 arg6 harg6 arg7 harg7 arg8 harg8 arg9 harg9 arg10 harg10 arg11 harg11 arg12 harg12 arg13 harg13 x0 x1 x2 x3 x4 x5 x6 x7 x8 x9 xt0 xt1 hw

end

section
variable (a : Fin 513) (T : Fin 9) (hw : k0_chk1 (BitVec.ofNat 32 (8 * a.val)) (BitVec.ofNat 32 T.val)) (z : BitVec 32)
  (v4 : Vec Ideal S1x1x512 .i32) (v6 v8 v10 : Vec Ideal S1x512 .f32) (P : Vec Ideal S4096x3 .f32) (B : Vec Ideal S4096x1 .i32)
  (X : Vec Ideal S4096x512 .f32)

/-- When exactly three rows lie within a bound below the masked distance, all of them in the tiles looked at, the places end holding
exactly those. -/
theorem chosen_items (q : Fin 512) (τ : EReal) (hτ : τ < big) (N : Finset (Fin 4096)) (hN : N.card = 3)
    (hm : ∀ s, s ∈ N ↔ laneDist v4 v6 v8 v10 P B q s ≤ τ) (hr : ∀ s ∈ N, 8 * a.val ≤ s.val ∧ s.val < 8 * a.val + 576 * T.val) :
    items (lane (chosen c i arg3 harg3 arg4 harg4 arg5 harg5 arg6 harg6 arg7 harg7 arg8 harg8 arg9 harg9 arg10 harg10 arg11 harg11 arg12 harg12 arg13 harg13 (BitVec.ofNat 32 (8 * a.val)) (BitVec.ofNat 32 T.val) z hw v4 v6 v8 v10 P B) (ix1 q))
      = N.val.map fun s => (laneDist v4 v6 v8 v10 P B q s, (word s : BitVec 32)) := by
  have e1 : (Finset.univ.filter fun s => laneDist v4 v6 v8 v10 P B q s ≤ τ) = N := by
    ext s; simp [hm s]
  have e2 : (Finset.univ.filter fun s => laneDist v4 v6 v8 v10 P B q s ≤ τ ∧ 8 * a.val ≤ s.val ∧ s.val < 8 * a.val + 576 * T.val) = N := by
    ext s
    simp only [Finset.mem_filter, Finset.mem_univ, true_and]
    exact ⟨fun h => (hm s).mpr h.1, fun h => ⟨(hm s).mp h, hr s h⟩⟩
  have hi : ∀ x ∈ items (lane ((k0_pay69 (F := Ideal)), k0_pay70, k0_pay71, k0_pay72, k0_pay73, k0_pay74) (ix1 q)), τ < x.1 := by
    intro x hx
    have : x.1 = big := by
      unfold items lane at hx
      dsimp only at hx
      simp only [Multiset.mem_cons, Multiset.notMem_zero, or_false] at hx
      rcases hx with rfl | rfl | rfl <;> rfl
    rw [this]; exact hτ
  have h := state_inv Variants.none c none i tbM0_0 htbM0_0 tbM0_1 htbM0_1 arg3 harg3 arg4 harg4 arg5 harg5 arg6 harg6 arg7 harg7 arg8 harg8 arg9 harg9 arg10 harg10 arg11 harg11 arg12 harg12 arg13 harg13 a T hw v4 v6 v8 v10 rowsDown P B rowsDown_apply q τ
    (lt_trans hτ Cert.Mix.big_dead) (by rw [e1, hN]) _ hi T.val le_rfl
  rw [e2] at h
  have h' := h.final hN
  unfold chosen
  rw [steps1, steps2, st_k0_t2_zero]
  exact h'

/-- The gathered feature, under the same hypotheses, is the weighted mean over the three rows. -/
theorem feats_value (q h : Fin 512) (τ : EReal) (hτ : τ < big) (N : Finset (Fin 4096)) (hN : N.card = 3)
    (hm : ∀ s, s ∈ N ↔ laneDist v4 v6 v8 v10 P B q s ≤ τ) (hr : ∀ s ∈ N, 8 * a.val ≤ s.val ∧ s.val < 8 * a.val + 576 * T.val) :
    feats c i arg3 harg3 arg4 harg4 arg5 harg5 arg6 harg6 arg7 harg7 arg8 harg8 arg9 harg9 arg10 harg10 arg11 harg11 arg12 harg12 arg13 harg13 (BitVec.ofNat 32 (8 * a.val)) (BitVec.ofNat 32 T.val) hw
      (chosen c i arg3 harg3 arg4 harg4 arg5 harg5 arg6 harg6 arg7 harg7 arg8 harg8 arg9 harg9 arg10 harg10 arg11 harg11 arg12 harg12 arg13 harg13 (BitVec.ofNat 32 (8 * a.val)) (BitVec.ofNat 32 T.val) z hw v4 v6 v8 v10 P B) X (ix2 q h)
      = Ideal.div (∑ s ∈ N, X (ix2 s h) * wt (laneDist v4 v6 v8 v10 P B q s)) (∑ s ∈ N, wt (laneDist v4 v6 v8 v10 P B q s)) := by
  have hI := chosen_items c i arg3 harg3 arg4 harg4 arg5 harg5 arg6 harg6 arg7 harg7 arg8 harg8 arg9 harg9 arg10 harg10 arg11 harg11 arg12 harg12 arg13 harg13 a T hw z v4 v6 v8 v10 P B q τ hτ N hN hm hr
  generalize chosen c i arg3 harg3 arg4 harg4 arg5 harg5 arg6 harg6 arg7 harg7 arg8 harg8 arg9 harg9 arg10 harg10 arg11 harg11 arg12 harg12 arg13 harg13 (BitVec.ofNat 32 (8 * a.val)) (BitVec.ofNat 32 T.val) z hw v4 v6 v8 v10 P B = S at *
  obtain ⟨a0, a1, a2, a3, a4, a5⟩ := S
  unfold feats
  dsimp only
  rw [steps3, steps4, st_k0_t4_zero]
  have p7 : k0_pay107 a4 (k0_pay103 a0) (k0_pay104 a2) (ix1 q)
      = Ideal.div (wt (a0 (ix1 q))) (wt (a0 (ix1 q)) + wt (a2 (ix1 q)) + wt (a4 (ix1 q))) := by
    unfold k0_pay107 k0_pay106 k0_pay105 k0_pay103 k0_pay104 wt
    simp only [pointwise]
  have p8 : k0_pay108 a4 (k0_pay103 a0) (k0_pay104 a2) (ix1 q)
      = Ideal.div (wt (a2 (ix1 q))) (wt (a0 (ix1 q)) + wt (a2 (ix1 q)) + wt (a4 (ix1 q))) := by
    unfold k0_pay108 k0_pay106 k0_pay105 k0_pay103 k0_pay104 wt
    simp only [pointwise]
  have p9 : k0_pay109 a4 (k0_pay103 a0) (k0_pay104 a2) (ix1 q)
      = Ideal.div (wt (a4 (ix1 q))) (wt (a0 (ix1 q)) + wt (a2 (ix1 q)) + wt (a4 (ix1 q))) := by
    unfold k0_pay109 k0_pay106 k0_pay105 k0_pay103 k0_pay104 wt
    simp only [pointwise]
  refine (gather_state Variants.none c none i tbM0_0 htbM0_0 tbM0_1 htbM0_1 arg3 harg3 arg4 harg4 arg5 harg5 arg6 harg6 arg7 harg7 arg8 harg8 arg9 harg9 arg10 harg10 arg11 harg11 arg12 harg12 arg13 harg13 a T hw rowsAlong a1 a3 a5 a4 (k0_pay103 a0) (k0_pay104 a2) X rowsAlong_apply q h ?_ k0_pay110 ?_
    T.val le_rfl).trans ?_
  · rw [p7, p8, p9]
    exact Cert.Mix.pick_none _ N _ hI fun v => Ideal.div (wt v) (wt (a0 (ix1 q)) + wt (a2 (ix1 q)) + wt (a4 (ix1 q)))
  · unfold k0_pay110
    simp only [pointwise]
  · rw [p7, p8, p9]
    refine Cert.Mix.gathered _ N _ hI hN (fun s hs => lt_of_le_of_lt ((hm s).mp hs) (lt_trans hτ Cert.Mix.big_top)) _ (fun s hs => ?_) fun s => X (ix2 s h)
    exact Finset.mem_filter.mpr ⟨Finset.mem_univ _, hr s hs⟩

end

section
variable (x0 : Vec Ideal S3x512 .f32) (x1 : Vec Ideal S512x128 .f32) (x2 : Vec Ideal S1x1x512 .i32) (x3 : Vec Ideal S4096x3 .f32) (x4 : Vec Ideal S4096x1 .i32) (x5 : Vec Ideal S4096x512 .f32) (x6 : Vec Ideal S640x512 .f32) (x7 : Vec Ideal S1x512 .f32) (x8 : Vec Ideal S512x256 .f32) (x9 : Vec Ideal S1x256 .f32)

/-- The body's two layers at an element. -/
theorem blockOf_apply (u v z : BitVec 32) (hw : k0_chk1 u v) (b1 : S512.Idx → EReal) (hb1 : ∀ k : Fin 512, x7 (ix2 0 k) = b1 (ix1 k))
    (b2 : S256.Idx → EReal) (hb2 : ∀ k : Fin 256, x9 (ix2 0 k) = b2 (ix1 k)) (q : Fin 512) (o : Fin 256) :
    blockOf c i arg3 harg3 arg4 harg4 arg5 harg5 arg6 harg6 arg7 harg7 arg8 harg8 arg9 harg9 arg10 harg10 arg11 harg11 arg12 harg12 arg13 harg13 x0 x1 x2 x3 x4 x5 x6 x7 x8 x9 u v z hw (ix2 q o)
      = layers (fun h => feats c i arg3 harg3 arg4 harg4 arg5 harg5 arg6 harg6 arg7 harg7 arg8 harg8 arg9 harg9 arg10 harg10 arg11 harg11 arg12 harg12 arg13 harg13 u v hw (chosen c i arg3 harg3 arg4 harg4 arg5 harg5 arg6 harg6 arg7 harg7 arg8 harg8 arg9 harg9 arg10 harg10 arg11 harg11 arg12 harg12 arg13 harg13 u v z hw (ld4 arg5 harg5 x2) (ld6 arg3 harg3 x0) (ld8 arg3 harg3 x0) (ld10 arg3 harg3 x0) x3 x4) x5 (ix2 q h))
        (fun k => x1 (ix2 q k)) x6 b1 x8 b2 o := by
  unfold blockOf layers
  generalize feats c i arg3 harg3 arg4 harg4 arg5 harg5 arg6 harg6 arg7 harg7 arg8 harg8 arg9 harg9 arg10 harg10 arg11 harg11 arg12 harg12 arg13 harg13 u v hw (chosen c i arg3 harg3 arg4 harg4 arg5 harg5 arg6 harg6 arg7 harg7 arg8 harg8 arg9 harg9 arg10 harg10 arg11 harg11 arg12 harg12 arg13 harg13 u v z hw (ld4 arg5 harg5 x2) (ld6 arg3 harg3 x0) (ld8 arg3 harg3 x0) (ld10 arg3 harg3 x0) x3 x4) x5 = Y
  rw [mlp_apply]
  refine congrArg₂ (fun a b : EReal => a + b) (Finset.sum_congr rfl fun h _ => congrArg₂ (fun a b : EReal => max a 0 * b) (congrArg₂ (fun a b : EReal => a + b)
    (congrArg₂ (fun a b : EReal => a + b) (Finset.sum_congr rfl fun k _ => ?_) (Finset.sum_congr rfl fun k _ => congrArg₂ (fun a b : EReal => a * b) ?_ ?_)) ?_) ?_) ?_
  · refine congrArg (fun z : EReal => Y (ix2 q k) * z) ?_
    refine (harg9.readAt_unread (Val := Elt Ideal) x6 _ _).trans (congrArg x6 ?_)
    funext x; apply Fin.ext
    match x with
    | ⟨0, _⟩ => show 0 + 1 * k.val = k.val; omega
    | ⟨1, _⟩ => show 0 + 1 * h.val = h.val; omega
  · refine (harg4.readAt_unread (Val := Elt Ideal) x1 _ _).trans (congrArg x1 ?_)
    funext x; apply Fin.ext
    match x with
    | ⟨0, _⟩ => show 0 + 1 * q.val = q.val; omega
    | ⟨1, _⟩ => show 0 + 1 * k.val = k.val; omega
  · refine (harg9.readAt_unread (Val := Elt Ideal) x6 _ _).trans (congrArg x6 ?_)
    funext x; apply Fin.ext
    match x with
    | ⟨0, _⟩ => show 512 + 1 * k.val = 512 + k.val; omega
    | ⟨1, _⟩ => show 0 + 1 * h.val = h.val; omega
  · refine (harg10.readAt_unread (Val := Elt Ideal) x7 _ _).trans (Eq.trans (congrArg x7 ?_) (hb1 h))
    funext x; apply Fin.ext
    match x with
    | ⟨0, _⟩ => rfl
    | ⟨1, _⟩ => show 0 + 1 * h.val = h.val; omega
  · refine (harg11.readAt_unread (Val := Elt Ideal) x8 _ _).trans (congrArg x8 ?_)
    funext x; apply Fin.ext
    match x with
    | ⟨0, _⟩ => show 0 + 1 * h.val = h.val; omega
    | ⟨1, _⟩ => show 0 + 1 * o.val = o.val; omega
  · refine (harg12.readAt_unread (Val := Elt Ideal) x9 _ _).trans (Eq.trans (congrArg x9 ?_) (hb2 o))
    funext x; apply Fin.ext
    match x with
    | ⟨0, _⟩ => rfl
    | ⟨1, _⟩ => show 0 + 1 * o.val = o.val; omega

/-- The body's distance at a lane, of the blocks it loads. -/
theorem laneDist_loads (q : Fin 512) (s : Fin 4096) :
    laneDist (ld4 arg5 harg5 x2) (ld6 arg3 harg3 x0) (ld8 arg3 harg3 x0) (ld10 arg3 harg3 x0) x3 x4 q s
      = dist x3 x4 (x2 (ix3 0 0 q)) (x0 (ix2 0 q)) (x0 (ix2 1 q)) (x0 (ix2 2 q)) s := by
  have e4 : ld4 arg5 harg5 x2 (ix3 0 0 q) = x2 (ix3 0 0 q) := by
    refine (harg5.readAt_unread (Val := Elt Ideal) x2 _ _).trans (congrArg x2 ?_)
    funext x; apply Fin.ext
    match x with
    | ⟨0, _⟩ => rfl
    | ⟨1, _⟩ => rfl
    | ⟨2, _⟩ => show 0 + 1 * q.val = q.val; omega
  have e6 : ld6 arg3 harg3 x0 (ix2 0 q) = x0 (ix2 0 q) := by
    refine (harg3.readAt_unread (Val := Elt Ideal) x0 _ _).trans (congrArg x0 ?_)
    funext x; apply Fin.ext
    match x with
    | ⟨0, _⟩ => rfl
    | ⟨1, _⟩ => show 0 + 1 * q.val = q.val; omega
  have e8 : ld8 arg3 harg3 x0 (ix2 0 q) = x0 (ix2 1 q) := by
    refine (harg3.readAt_unread (Val := Elt Ideal) x0 _ _).trans (congrArg x0 ?_)
    funext x; apply Fin.ext
    match x with
    | ⟨0, _⟩ => rfl
    | ⟨1, _⟩ => show 0 + 1 * q.val = q.val; omega
  have e10 : ld10 arg3 harg3 x0 (ix2 0 q) = x0 (ix2 2 q) := by
    refine (harg3.readAt_unread (Val := Elt Ideal) x0 _ _).trans (congrArg x0 ?_)
    funext x; apply Fin.ext
    match x with
    | ⟨0, _⟩ => rfl
    | ⟨1, _⟩ => show 0 + 1 * q.val = q.val; omega
  unfold laneDist
  rw [e4, e6, e8, e10]

end

end Cert.KernelIdeal.Proof
-- ==== Proof.Blocks.lean ====
module

public import proofs.«01_k».proof.Proof.Block
public import proofs.«01_k».proof.Proof.Checks

@[expose] public section

set_option maxRecDepth 16384

noncomputable section

/-! # The blocks the body is handed

Each input's block at a grid point, read at an element of the program's arguments. -/

namespace Cert.KernelIdeal.Proof

open Idealize.ShloMosaic Idealize.ShloMosaic.TcCoe
open Idealize.SL.Sem
open Cert.KernelIdeal.Gen Cert.Select Cert.Words

variable (m : (ℓ : Loc nD τ sig) → Buf (Elt Ideal) ℓ) (c : Dev nD)

/-- The query that block `p`'s lane `q` holds. -/
def query (p : Fin 16) (q : Fin 512) : Fin 8192 := ⟨512 * p.val + q.val, by omega⟩

theorem grid_toNat (t : Fin grid0.N) :
    (BitVec.ofNat 32 ((grid0.coords t) 0).val).toNat = (blk (grid0.coords t)).val := by
  have h : (blk (grid0.coords t)).val < 16 := (blk (grid0.coords t)).isLt
  rw [BitVec.toNat_ofNat]
  exact Nat.mod_eq_of_lt (by show (blk (grid0.coords t)).val < _; omega)

theorem iblk0 (t : Fin grid0.N) (a : Fin 3) (q : Fin 512) :
    iblk m trivial c 0 t (ix2 a q) = m ((c.tc : Thread nD τ).loc main_arg4) (ix2 (query (blk (grid0.coords t)) q) a) := by
  refine Eq.trans (b := V m c main_v27 (ix2 a (query (blk (grid0.coords t)) q))) ?_ ?_
  · refine congrArg (V m c main_v27) ?_
    funext x; apply Fin.ext
    match x with
    | ⟨0, _⟩ => show 0 * 3 + 1 * (a).val = (a).val; omega
    | ⟨1, _⟩ => show (BitVec.ofNat 32 ((grid0.coords t) 0).val).toNat * 512 + 1 * (q).val = 512 * (blk (grid0.coords t)).val + q.val; rw [grid_toNat]; omega
  · unfold Gen.V
    after_reads_at

theorem iblk1 (t : Fin grid0.N) (q : Fin 512) (k : Fin 128) :
    iblk m trivial c 1 t (ix2 q k) = m ((c.tc : Thread nD τ).loc main_arg3) (ix2 (query (blk (grid0.coords t)) q) k) := by
  refine Eq.trans (b := V m c main_arg3 (ix2 (query (blk (grid0.coords t)) q) k)) ?_ ?_
  · refine congrArg (V m c main_arg3) ?_
    funext x; apply Fin.ext
    match x with
    | ⟨0, _⟩ => show (BitVec.ofNat 32 ((grid0.coords t) 0).val).toNat * 512 + 1 * (q).val = 512 * (blk (grid0.coords t)).val + q.val; rw [grid_toNat]; omega
    | ⟨1, _⟩ => show 0 * 128 + 1 * (k).val = (k).val; omega
  · unfold Gen.V
    after_reads_at

theorem iblk2 (t : Fin grid0.N) (q : Fin 512) :
    iblk m trivial c 2 t (ix3 0 0 q) = m ((c.tc : Thread nD τ).loc main_arg5) (ix1 (query (blk (grid0.coords t)) q)) := by
  refine Eq.trans (b := V m c main_v29 (ix3 (blk (grid0.coords t)) 0 q)) ?_ ?_
  · refine congrArg (V m c main_v29) ?_
    funext x; apply Fin.ext
    match x with
    | ⟨0, _⟩ => show (BitVec.ofNat 32 ((grid0.coords t) 0).val).toNat * 1 + 1 * ((0 : Fin 1)).val = (blk (grid0.coords t)).val; rw [grid_toNat]; simp
    | ⟨1, _⟩ => show 0 * 1 + 1 * ((0 : Fin 1)).val = ((0 : Fin 1)).val; omega
    | ⟨2, _⟩ => show 0 * 512 + 1 * (q).val = (q).val; omega
  · unfold Gen.V
    after_reads_at
    exact congrArg (fun r => m ((c.tc : Thread nD τ).loc main_arg5) (ix1 r))
      (Fin.ext (by show (blk (grid0.coords t)).val * 512 + q.val = 512 * (blk (grid0.coords t)).val + q.val; omega))

theorem iblk4 (t : Fin grid0.N) (s : Fin 4096) :
    iblk m trivial c 4 t (ix2 s 0) = m ((c.tc : Thread nD τ).loc main_arg2) (ix1 s) := by
  refine Eq.trans (b := V m c main_v28 (ix2 s 0)) ?_ ?_
  · refine congrArg (V m c main_v28) ?_
    funext x; apply Fin.ext
    match x with
    | ⟨0, _⟩ => show 0 * 4096 + 1 * (s).val = (s).val; omega
    | ⟨1, _⟩ => show 0 * 1 + 1 * ((0 : Fin 1)).val = ((0 : Fin 1)).val; omega
  · unfold Gen.V
    after_reads_at

theorem iblk7 (t : Fin grid0.N) (k : Fin 512) :
    iblk m trivial c 7 t (ix2 0 k) = m ((c.tc : Thread nD τ).loc main_arg7) (ix1 k) := by
  refine Eq.trans (b := V m c main_v30 (ix2 0 k)) ?_ ?_
  · refine congrArg (V m c main_v30) ?_
    funext x; apply Fin.ext
    match x with
    | ⟨0, _⟩ => show 0 * 1 + 1 * ((0 : Fin 1)).val = ((0 : Fin 1)).val; omega
    | ⟨1, _⟩ => show 0 * 512 + 1 * (k).val = (k).val; omega
  · unfold Gen.V
    after_reads_at

theorem iblk9 (t : Fin grid0.N) (k : Fin 256) :
    iblk m trivial c 9 t (ix2 0 k) = m ((c.tc : Thread nD τ).loc main_arg9) (ix1 k) := by
  refine Eq.trans (b := V m c main_v31 (ix2 0 k)) ?_ ?_
  · refine congrArg (V m c main_v31) ?_
    funext x; apply Fin.ext
    match x with
    | ⟨0, _⟩ => show 0 * 1 + 1 * ((0 : Fin 1)).val = ((0 : Fin 1)).val; omega
    | ⟨1, _⟩ => show 0 * 256 + 1 * (k).val = (k).val; omega
  · unfold Gen.V
    after_reads_at

theorem iblk3 (t : Fin grid0.N) (j : S4096x3.Idx) :
    iblk m trivial c 3 t j = m ((c.tc : Thread nD τ).loc main_arg1) j := by
  refine Eq.trans (b := V m c main_arg1 j) ?_ ?_
  · refine congrArg (V m c main_arg1) ?_
    funext x; apply Fin.ext
    match x with
    | ⟨0, _⟩ => show 0 * 4096 + 1 * (j 0).val = (j 0).val; omega
    | ⟨1, _⟩ => show 0 * 3 + 1 * (j 1).val = (j 1).val; omega
  · unfold Gen.V
    after_reads_at

theorem iblk5 (t : Fin grid0.N) (j : S4096x512.Idx) :
    iblk m trivial c 5 t j = m ((c.tc : Thread nD τ).loc main_arg0) j := by
  refine Eq.trans (b := V m c main_arg0 j) ?_ ?_
  · refine congrArg (V m c main_arg0) ?_
    funext x; apply Fin.ext
    match x with
    | ⟨0, _⟩ => show 0 * 4096 + 1 * (j 0).val = (j 0).val; omega
    | ⟨1, _⟩ => show 0 * 512 + 1 * (j 1).val = (j 1).val; omega
  · unfold Gen.V
    after_reads_at

theorem iblk6 (t : Fin grid0.N) (j : S640x512.Idx) :
    iblk m trivial c 6 t j = m ((c.tc : Thread nD τ).loc main_arg6) j := by
  refine Eq.trans (b := V m c main_arg6 j) ?_ ?_
  · refine congrArg (V m c main_arg6) ?_
    funext x; apply Fin.ext
    match x with
    | ⟨0, _⟩ => show 0 * 640 + 1 * (j 0).val = (j 0).val; omega
    | ⟨1, _⟩ => show 0 * 512 + 1 * (j 1).val = (j 1).val; omega
  · unfold Gen.V
    after_reads_at

theorem iblk8 (t : Fin grid0.N) (j : S512x256.Idx) :
    iblk m trivial c 8 t j = m ((c.tc : Thread nD τ).loc main_arg8) j := by
  refine Eq.trans (b := V m c main_arg8 j) ?_ ?_
  · refine congrArg (V m c main_arg8) ?_
    funext x; apply Fin.ext
    match x with
    | ⟨0, _⟩ => show 0 * 512 + 1 * (j 0).val = (j 0).val; omega
    | ⟨1, _⟩ => show 0 * 256 + 1 * (j 1).val = (j 1).val; omega
  · unfold Gen.V
    after_reads_at

end Cert.KernelIdeal.Proof
-- ==== Proof.Promise.lean ====
module

public import proofs.«01_k».proof.Pre_three_clear_neighbours
public import proofs.«01_k».proof.Proof.Answer

@[expose] public section

set_option maxRecDepth 16384

noncomputable section

/-! # What the precondition says

Both batch arrays ascend, and each query has three sources of its own batch, the third strictly nearer than the fourth. -/

namespace Cert.Promise

open Idealize.ShloMosaic Idealize.ShloMosaic.TcCoe
open Cert.Pre_three_clear_neighbours Cert.Order
open Cert.ReferenceIdeal.Proof (negEntry negd negd_apply)

instance : Subsingleton S_.Idx := ⟨fun a b => funext fun i => i.elim0⟩

/-- A conjunction of two bits is one only if both are. -/
theorem both {a b : IVec S_ 1} (h : andi a b = fun _ => 1#1) : a = (fun _ => 1#1) ∧ b = fun _ => 1#1 := by
  have : ∀ J, a J = 1#1 ∧ b J = 1#1 := fun J => IntOp.andi_eq_one.mp (congrFun h J)
  exact ⟨funext fun J => (this J).1, funext fun J => (this J).2⟩

section
variable [Facts]

/-- Each source's batch is at most the next one's. -/
theorem step_B (B : IVec S4096 32) (h : Host.reduce IntOp.andi (cmpi .sle (extractStridedSlice S4095 ![0] B Facts.slices_S4096_S4095_0)
    (extractStridedSlice S4095 ![1] B Facts.slices_S4096_S4095_1)) (constantI S_ 1 1#1) Facts.reducesTo_S4095_S_d0 Facts.h_S_ = fun _ => 1#1)
    (s : Fin 4095) : (B (ix1 ⟨s.val, by omega⟩)).toInt ≤ (B (ix1 ⟨s.val + 1, by omega⟩)).toInt := by
  have := Host.reduce_andi_all _ _ _ _ ix0 (congrFun h ix0) (ix1 s)
  simp only [pointwise] at this
  have e0 : (⟨![0] 0 + s.val, by simp; omega⟩ : Fin 4096) = ⟨s.val, by omega⟩ := Fin.ext (by simp)
  have e1 : (⟨![1] 0 + s.val, by simp; omega⟩ : Fin 4096) = ⟨s.val + 1, by omega⟩ := Fin.ext (by simp; omega)
  rw [e0, e1] at this
  refine BitVec.sle_iff_toInt_le.mp ?_
  unfold IntOp.cmpi at this
  revert this
  cases BitVec.sle (B (ix1 ⟨s.val, _⟩)) (B (ix1 ⟨s.val + 1, _⟩)) <;> simp

/-- Each query's batch is at most the next one's. -/
theorem step_C (C : IVec S8192 32) (h : Host.reduce IntOp.andi (cmpi .sle (extractStridedSlice S8191 ![0] C Facts.slices_S8192_S8191_0)
    (extractStridedSlice S8191 ![1] C Facts.slices_S8192_S8191_1)) (constantI S_ 1 1#1) Facts.reducesTo_S8191_S_d0 Facts.h_S_ = fun _ => 1#1)
    (s : Fin 8191) : (C (ix1 ⟨s.val, by omega⟩)).toInt ≤ (C (ix1 ⟨s.val + 1, by omega⟩)).toInt := by
  have := Host.reduce_andi_all _ _ _ _ ix0 (congrFun h ix0) (ix1 s)
  simp only [pointwise] at this
  have e0 : (⟨![0] 0 + s.val, by simp; omega⟩ : Fin 8192) = ⟨s.val, by omega⟩ := Fin.ext (by simp)
  have e1 : (⟨![1] 0 + s.val, by simp; omega⟩ : Fin 8192) = ⟨s.val + 1, by omega⟩ := Fin.ext (by simp; omega)
  rw [e0, e1] at this
  refine BitVec.sle_iff_toInt_le.mp ?_
  unfold IntOp.cmpi at this
  revert this
  cases BitVec.sle (C (ix1 ⟨s.val, _⟩)) (C (ix1 ⟨s.val + 1, _⟩)) <;> simp

/-- Neighbouring steps up make the whole ascend. -/
theorem ascend {n : Nat} (f : Fin (n + 1) → Int) (h : ∀ s : Fin n, f ⟨s.val, by omega⟩ ≤ f ⟨s.val + 1, by omega⟩) (a b : Fin (n + 1))
    (hab : a ≤ b) : f a ≤ f b :=
  Fin.monotone_iff_le_succ.mpr (fun s => h s) hab

/-- An all-true comparison of two columns holds at each query. -/
theorem less (a b : FVec Ideal S8192 .f32) (h : Host.reduce IntOp.andi (cmpf .olt a b) (constantI S_ 1 1#1) Facts.reducesTo_S8192_S_d0 Facts.h_S_
    = fun _ => 1#1) (q : Fin 8192) : a (ix1 q) < b (ix1 q) := by
  have := Host.reduce_andi_all _ _ _ _ ix0 (congrFun h ix0) (ix1 q)
  have e : cmpf .olt a b (ix1 q) = BitVec.ofBool (decide (a (ix1 q) < b (ix1 q))) := rfl
  rw [e] at this
  by_contra hn
  simp [hn] at this

/-- The precondition's matrix of squared distances, negated, is the reference's. -/
theorem column (P : FVec Ideal S4096x3 .f32) (Q : FVec Ideal S8192x3 .f32) (B : IVec S4096 32) (C : IVec S8192 32) (j : Fin 4) (q : Fin 8192)
    (hs : S8192x4.Slices ![0, j.val] S8192x1) :
    Host.negf (shapeCast S8192 (extractStridedSlice S8192x1 ![0, j.val] (Host.topK S8192x4 1 (FloatOps.cmpfTotal .gt) (negd P Q B C)
      Facts.sliceFits_S8192x4096_S8192x4).1 hs) Facts.shapeCasts_S8192x1_S8192) (ix1 q)
    = -(negEntry P Q B C q (ord (negEntry P Q B C q) ⟨j.val, by omega⟩)) := by
  have e : (fun s => negd P Q B C (ix2 q s)) = negEntry P Q B C q := funext fun s => negd_apply P Q B C q s
  have hv := (topK_value (A := 8192) (n := 4096) (k := 4) (by norm_num) (negd P Q B C) Facts.sliceFits_S8192x4096_S8192x4 q j)
  rw [negd_apply, e] at hv
  generalize Host.topK S8192x4 1 (FloatOps.cmpfTotal .gt) (negd P Q B C) Facts.sliceFits_S8192x4096_S8192x4 = K at *
  simp only [pointwise]
  refine congrArg (fun z : EReal => -z) (Eq.trans ?_ hv)
  exact congrArg₂ (fun (a : Fin 8192) (b : Fin 4) => K.1 (ix2 a b)) (Fin.ext (by simp)) (Fin.ext (by simp))

/-- The precondition, read off: both batch arrays ascend, and each query's third place is nearer than the cut-off and strictly nearer than
the fourth. -/
theorem promise (X : FVec Ideal S4096x512 .f32) (P : FVec Ideal S4096x3 .f32) (B : IVec S4096 32) (XS : FVec Ideal S8192x128 .f32)
    (Q : FVec Ideal S8192x3 .f32) (C : IVec S8192 32) (W1 : FVec Ideal S640x512 .f32) (b1 : FVec Ideal S512 .f32) (W2 : FVec Ideal S512x256 .f32)
    (b2 : FVec Ideal S256 .f32) (h : fn (F := Ideal) X P B XS Q C W1 b1 W2 b2 = fun _ => 1#1) :
    (∀ a b : Fin 4096, a ≤ b → (B (ix1 a)).toInt ≤ (B (ix1 b)).toInt) ∧ (∀ a b : Fin 8192, a ≤ b → (C (ix1 a)).toInt ≤ (C (ix1 b)).toInt)
    ∧ ∀ q, -(negEntry P Q B C q (ord (negEntry P Q B C q) ⟨2, by norm_num⟩)) < Ideal.ofBits .f32 0x501502F9#32
      ∧ negEntry P Q B C q (ord (negEntry P Q B C q) ⟨3, by norm_num⟩) < negEntry P Q B C q (ord (negEntry P Q B C q) ⟨2, by norm_num⟩) := by
  unfold fn fn_part1 fn_where at h
  dsimp only at h
  obtain ⟨h, h4⟩ := both h
  obtain ⟨h, h3⟩ := both h
  obtain ⟨h1, h2⟩ := both h
  refine ⟨ascend (n := 4095) (fun s => (B (ix1 s)).toInt) (step_B B h1), ascend (n := 8191) (fun s => (C (ix1 s)).toInt) (step_C C h2), fun q => ?_⟩
  have t2 := column P Q B C ⟨2, by norm_num⟩ q Facts.slices_S8192x4_S8192x1_0_2
  have t3 := column P Q B C ⟨3, by norm_num⟩ q Facts.slices_S8192x4_S8192x1_0_3
  constructor
  · exact lt_of_eq_of_lt t2.symm (less _ _ h3 q)
  · exact EReal.neg_lt_neg_iff.mp (lt_of_eq_of_lt t2.symm (lt_of_lt_of_eq (less _ _ h4 q) t3))

end
end Cert.Promise
-- ==== Proof.Range.lean ====
module

public import proofs.«01_k».proof.Proof.Blocks
public import proofs.«01_k».proof.Proof.Promise

@[expose] public section

set_option maxRecDepth 16384

noncomputable section

/-! # The rows a block looks at hold its queries' nearest sources

The kernel's distance is the reference's, and under the promise each query's three nearest sources lie among the rows its block covers. -/

namespace Cert.KernelIdeal.Proof

open Idealize.ShloMosaic Idealize.ShloMosaic.TcCoe
open Idealize.SL.Sem
open Cert.Select Cert.Words Cert.Order
open Cert.ReferenceIdeal.Proof (negEntry nearest)

/-- Swapping the two points of a difference leaves its square. -/
theorem sub_mul_self_comm (a b : EReal) : (a - b) * (a - b) = (b - a) * (b - a) := by
  induction a <;> induction b <;> first
    | rfl
    | (rename_i x y; norm_cast; ring_nf)
    | simp

section
variable (P : S4096x3.Idx → EReal) (Q : S8192x3.Idx → EReal) (B : S4096.Idx → BitVec 32) (C : S8192.Idx → BitVec 32)

/-- The kernel's distance is the reference's entry with its sign flipped. -/
theorem dist_eq (B2 : S4096x1.Idx → BitVec 32) (hB : ∀ s, B2 (ix2 s 0) = B (ix1 s)) (q : Fin 8192) (s : Fin 4096) :
    dist P B2 (C (ix1 q)) (Q (ix2 q 0)) (Q (ix2 q 1)) (Q (ix2 q 2)) s = -(negEntry P Q B C q s) := by
  unfold dist negEntry
  rw [neg_neg, hB, Fin.sum_univ_three, sub_mul_self_comm (P (ix2 s 0)), sub_mul_self_comm (P (ix2 s 1)), sub_mul_self_comm (P (ix2 s 2))]
  by_cases h : C (ix1 q) = B (ix1 s)
  · rw [if_pos h.symm, if_pos h]
  · rw [if_neg (Ne.symm h), if_neg h]; rfl

/-- The nearest sources are those within the third one's distance. -/
theorem mem_nearest (q : Fin 8192)
    (h : negEntry P Q B C q (ord (negEntry P Q B C q) ⟨3, by norm_num⟩) < negEntry P Q B C q (ord (negEntry P Q B C q) ⟨2, by norm_num⟩)) (s : Fin 4096) :
    s ∈ nearest P Q B C q ↔ -(negEntry P Q B C q s) ≤ -(negEntry P Q B C q (ord (negEntry P Q B C q) ⟨2, by norm_num⟩)) := by
  unfold nearest
  rw [mem_three _ _ h, EReal.neg_le_neg_iff]

/-- A source nearer than the masking distance is of the query's batch. -/
theorem same_batch (q : Fin 8192) (s : Fin 4096) (h : -(negEntry P Q B C q s) < Ideal.ofBits .f32 0x501502F9#32) : C (ix1 q) = B (ix1 s) := by
  by_contra hne
  unfold negEntry at h
  rw [if_neg hne, neg_neg] at h
  exact lt_irrefl _ h

end

theorem ofFin_ix1 {n : Nat} (q : Fin n) : (Shape.Idx.ofFin q : (⟨1, ![n]⟩ : Shape).Idx) = ix1 q := ofFin_eq (ix1 q)

/-- In an ascending array the rows below a word come before every row that is not below it. -/
theorem below_le_row (B : S4096.Idx → BitVec 32) (hs : ∀ a b : Fin 4096, a ≤ b → (B (ix1 a)).toInt ≤ (B (ix1 b)).toInt)
    (v : BitVec 32) (s : Fin 4096) (h : v.toInt ≤ (B (ix1 s)).toInt) : below B v ≤ s.val := by
  unfold below
  have : (Finset.univ.filter fun q : Fin 4096 => (B (Shape.Idx.ofFin q)).toInt < v.toInt) ⊆ Finset.Iio s := by
    intro q hq
    have hq := (Finset.mem_filter.mp hq).2
    refine Finset.mem_Iio.mpr ?_
    by_contra hn
    have h1 := hs s q (not_lt.mp hn)
    rw [ofFin_ix1] at hq
    omega
  exact (Finset.card_le_card this).trans (Fin.card_Iio s).le

/-- In an ascending array every row not above a word is counted among the rows not above it. -/
theorem row_lt_upto (B : S4096.Idx → BitVec 32) (hs : ∀ a b : Fin 4096, a ≤ b → (B (ix1 a)).toInt ≤ (B (ix1 b)).toInt)
    (v : BitVec 32) (s : Fin 4096) (h : (B (ix1 s)).toInt ≤ v.toInt) : s.val < upto B v := by
  unfold upto
  have : Finset.Iic s ⊆ Finset.univ.filter fun q : Fin 4096 => (B (Shape.Idx.ofFin q)).toInt ≤ v.toInt := by
    intro q hq
    refine Finset.mem_filter.mpr ⟨Finset.mem_univ _, ?_⟩
    rw [ofFin_ix1]
    exact (hs q s (Finset.mem_Iic.mp hq)).trans h
  refine lt_of_lt_of_le ?_ (Finset.card_le_card this)
  rw [Fin.card_Iic]; omega

section
variable (m : (ℓ : Loc nD τ sig) → Buf (Elt Ideal) ℓ) (c : Dev nD)

theorem first_query (p : Fin 16) : Host.slice S16 ![0] ![512] (m ((c.tc : Thread nD τ).loc main_arg5)) Gen.slicesBy_S8192_S16_0s512 (Shape.Idx.ofFin p)
    = m ((c.tc : Thread nD τ).loc main_arg5) (ix1 (query p 0)) := by
  unfold Host.slice
  refine congrArg (m ((c.tc : Thread nD τ).loc main_arg5)) ?_
  funext x; apply Fin.ext
  match x with
  | ⟨0, _⟩ => show 0 + 512 * p.val = 512 * p.val + 0; omega

theorem last_query (p : Fin 16) : Host.slice S16 ![511] ![512] (m ((c.tc : Thread nD τ).loc main_arg5)) Gen.slicesBy_S8192_S16_511s512 (Shape.Idx.ofFin p)
    = m ((c.tc : Thread nD τ).loc main_arg5) (ix1 (query p 511)) := by
  unfold Host.slice
  refine congrArg (m ((c.tc : Thread nD τ).loc main_arg5)) ?_
  funext x; apply Fin.ext
  match x with
  | ⟨0, _⟩ => show 511 + 512 * p.val = 512 * p.val + 511; omega

/-- Every source of the batch of one of a block's queries is among the rows the block looks at. -/
theorem covered
    (hB : ∀ a b : Fin 4096, a ≤ b → (m ((c.tc : Thread nD τ).loc main_arg2) (ix1 a)).toInt ≤ (m ((c.tc : Thread nD τ).loc main_arg2) (ix1 b)).toInt)
    (hC : ∀ a b : Fin 8192, a ≤ b → (m ((c.tc : Thread nD τ).loc main_arg5) (ix1 a)).toInt ≤ (m ((c.tc : Thread nD τ).loc main_arg5) (ix1 b)).toInt)
    (p : Fin 16) (q : Fin 512) (s : Fin 4096)
    (h : m ((c.tc : Thread nD τ).loc main_arg5) (ix1 (query p q)) = m ((c.tc : Thread nD τ).loc main_arg2) (ix1 s)) :
    start m c p ≤ s.val ∧ s.val < start m c p + 576 * tiles m c p := by
  have h1 : lo m c p ≤ s.val := by
    unfold lo
    rw [first_query]
    refine below_le_row _ hB _ s ?_
    rw [← h]
    exact hC _ _ (by show 512 * p.val + 0 ≤ 512 * p.val + q.val; omega)
  have h2 : s.val < hi m c p := by
    unfold hi
    rw [last_query]
    refine row_lt_upto _ hB _ s ?_
    rw [← h]
    exact hC _ _ (by show 512 * p.val + q.val ≤ 512 * p.val + 511; omega)
  unfold start tiles tilesOf startOf
  omega

end

end Cert.KernelIdeal.Proof
-- ==== Proof.Value.lean ====
module

public import proofs.«01_k».proof.Proof.Range

@[expose] public section

set_option maxRecDepth 16384

noncomputable section

/-! # What a block's body leaves

The block of the result at a grid point, element by element, is the reference's answer at the block's queries. -/

namespace Cert.KernelIdeal.Proof

open Idealize.ShloMosaic Idealize.ShloMosaic.TcCoe
open Idealize.SL.Sem
open Cert.KernelIdeal.Gen Cert.Select Cert.Words Cert.Order
open Cert.ReferenceIdeal.Proof (wt layers negEntry nearest blend)

section
variable (c : Dev nD) (i : grid0.Coords)
  (arg3 : Memref sig .tc .vmem S3x512 .f32) (harg3 : arg3.IsWhole)
   (arg4 : Memref sig .tc .vmem S512x128 .f32) (harg4 : arg4.IsWhole) (arg5 : Memref sig .tc .vmem S1x1x512 .i32) (harg5 : arg5.IsWhole) (arg6 : Memref sig .tc .vmem S4096x3 .f32) (harg6 : arg6.IsWhole)
   (arg7 : Memref sig .tc .vmem S4096x1 .i32) (harg7 : arg7.IsWhole) (arg8 : Memref sig .tc .vmem S4096x512 .f32) (harg8 : arg8.IsWhole) (arg9 : Memref sig .tc .vmem S640x512 .f32) (harg9 : arg9.IsWhole)
   (arg10 : Memref sig .tc .vmem S1x512 .f32) (harg10 : arg10.IsWhole) (arg11 : Memref sig .tc .vmem S512x256 .f32) (harg11 : arg11.IsWhole) (arg12 : Memref sig .tc .vmem S1x256 .f32) (harg12 : arg12.IsWhole)
   (arg13 : Memref sig .tc .vmem S512x256 .f32) (harg13 : arg13.IsWhole)

variable (x0 : Vec Ideal S3x512 .f32) (x1 : Vec Ideal S512x128 .f32) (x2 : Vec Ideal S1x1x512 .i32) (x3 : Vec Ideal S4096x3 .f32) (x4 : Vec Ideal S4096x1 .i32) (x5 : Vec Ideal S4096x512 .f32) (x6 : Vec Ideal S640x512 .f32) (x7 : Vec Ideal S1x512 .f32) (x8 : Vec Ideal S512x256 .f32) (x9 : Vec Ideal S1x256 .f32)

/-- The body's result at an element, when its two words name rows that hold the three sources within a bound. -/
theorem body_at (xt0 : TbBuf0 (F := Ideal) c tbM0_0) (xt1 : TbBuf0 (F := Ideal) c tbM0_1) (hw)
    (a : Fin 513) (T : Fin 9) (hu : kernelRun0_A.sl.r c i xt0 = BitVec.ofNat 32 (8 * a.val)) (hv : kernelRun0_A.sl.r_1 c i xt1 = BitVec.ofNat 32 T.val)
    (b1 : S512.Idx → EReal) (hb1 : ∀ k : Fin 512, x7 (ix2 0 k) = b1 (ix1 k)) (b2 : S256.Idx → EReal) (hb2 : ∀ k : Fin 256, x9 (ix2 0 k) = b2 (ix1 k))
    (q : Fin 512) (o : Fin 256) (d : Fin 4096 → EReal)
    (hd : ∀ s, dist x3 x4 (x2 (ix3 0 0 q)) (x0 (ix2 0 q)) (x0 (ix2 1 q)) (x0 (ix2 2 q)) s = d s)
    (τ : EReal) (hτ : τ < big) (N : Finset (Fin 4096)) (hN : N.card = 3)
    (hm : ∀ s, s ∈ N ↔ d s ≤ τ) (hr : ∀ s ∈ N, 8 * a.val ≤ s.val ∧ s.val < 8 * a.val + 576 * T.val) :
    out0_A_10 (F := Ideal) c i arg3 harg3 arg4 harg4 arg5 harg5 arg6 harg6 arg7 harg7 arg8 harg8 arg9 harg9 arg10 harg10 arg11 harg11 arg12 harg12 arg13 harg13 x0 x1 x2 x3 x4 x5 x6 x7 x8 x9 xt0 xt1 hw (ix2 q o)
      = layers (fun h => Ideal.div (∑ s ∈ N, x5 (ix2 s h) * wt (d s)) (∑ s ∈ N, wt (d s))) (fun k => x1 (ix2 q k)) x6 b1 x8 b2 o := by
  refine (congrFun (out_eq c i arg3 harg3 arg4 harg4 arg5 harg5 arg6 harg6 arg7 harg7 arg8 harg8 arg9 harg9 arg10 harg10 arg11 harg11 arg12 harg12 arg13 harg13 x0 x1 x2 x3 x4 x5 x6 x7 x8 x9 xt0 xt1 hw) (ix2 q o)).trans ?_
  refine (blockOf_apply c i arg3 harg3 arg4 harg4 arg5 harg5 arg6 harg6 arg7 harg7 arg8 harg8 arg9 harg9 arg10 harg10 arg11 harg11 arg12 harg12 arg13 harg13 x0 x1 x2 x3 x4 x5 x6 x7 x8 x9 (kernelRun0_A.sl.r c i xt0) (kernelRun0_A.sl.r_1 c i xt1) (kernelRun0_A.sl.v24 c i xt1) hw b1 hb1 b2 hb2 q o).trans ?_
  refine congrArg (fun y => layers y _ _ _ _ _ o) (funext fun h => ?_)
  generalize kernelRun0_A.sl.v24 c i xt1 = z
  have key : ∀ (u v : BitVec 32) (hw : k0_chk1 u v), u = BitVec.ofNat 32 (8 * a.val) → v = BitVec.ofNat 32 T.val →
      feats c i arg3 harg3 arg4 harg4 arg5 harg5 arg6 harg6 arg7 harg7 arg8 harg8 arg9 harg9 arg10 harg10 arg11 harg11 arg12 harg12 arg13 harg13 u v hw (chosen c i arg3 harg3 arg4 harg4 arg5 harg5 arg6 harg6 arg7 harg7 arg8 harg8 arg9 harg9 arg10 harg10 arg11 harg11 arg12 harg12 arg13 harg13 u v z hw (ld4 arg5 harg5 x2) (ld6 arg3 harg3 x0) (ld8 arg3 harg3 x0) (ld10 arg3 harg3 x0) x3 x4) x5 (ix2 q h)
        = Ideal.div (∑ s ∈ N, x5 (ix2 s h) * wt (d s)) (∑ s ∈ N, wt (d s)) := by
    intro u v hw hu hv
    subst hu hv
    have e : ∀ s, laneDist (ld4 arg5 harg5 x2) (ld6 arg3 harg3 x0) (ld8 arg3 harg3 x0) (ld10 arg3 harg3 x0) x3 x4 q s = d s := fun s =>
      (laneDist_loads arg3 harg3 arg5 harg5 x0 x2 x3 x4 q s).trans (hd s)
    refine (feats_value c i arg3 harg3 arg4 harg4 arg5 harg5 arg6 harg6 arg7 harg7 arg8 harg8 arg9 harg9 arg10 harg10 arg11 harg11 arg12 harg12 arg13 harg13 a T hw z _ _ _ _ x3 x4 x5 q h τ hτ N hN (fun s => by rw [e]; exact hm s) hr).trans ?_
    exact congrArg₂ Ideal.div (Finset.sum_congr rfl fun s _ => by rw [e]) (Finset.sum_congr rfl fun s _ => by rw [e])
  exact key _ _ hw hu hv

end

section
variable (m : (ℓ : Loc nD τ sig) → Buf (Elt Ideal) ℓ) (c : Dev nD)

/-- The answer as an array of the arguments: the reference's closed form at every query and output channel. -/
def answer : S8192x256.Idx → EReal := fun j =>
  layers (blend (m ((c.tc : Thread nD τ).loc main_arg0)) (m ((c.tc : Thread nD τ).loc main_arg1)) (m ((c.tc : Thread nD τ).loc main_arg4))
        (m ((c.tc : Thread nD τ).loc main_arg2)) (m ((c.tc : Thread nD τ).loc main_arg5)) (j 0))
      (fun k => m ((c.tc : Thread nD τ).loc main_arg3) (ix2 (j 0) k)) (m ((c.tc : Thread nD τ).loc main_arg6)) (m ((c.tc : Thread nD τ).loc main_arg7))
      (m ((c.tc : Thread nD τ).loc main_arg8)) (m ((c.tc : Thread nD τ).loc main_arg9)) (j 1)

/-- What the promise says of device `c`'s arguments. -/
structure Clear : Prop where
  sources : ∀ a b : Fin 4096, a ≤ b → (m ((c.tc : Thread nD τ).loc main_arg2) (ix1 a)).toInt ≤ (m ((c.tc : Thread nD τ).loc main_arg2) (ix1 b)).toInt
  queries : ∀ a b : Fin 8192, a ≤ b → (m ((c.tc : Thread nD τ).loc main_arg5) (ix1 a)).toInt ≤ (m ((c.tc : Thread nD τ).loc main_arg5) (ix1 b)).toInt
  third : ∀ q, -(negEntry (m ((c.tc : Thread nD τ).loc main_arg1)) (m ((c.tc : Thread nD τ).loc main_arg4)) (m ((c.tc : Thread nD τ).loc main_arg2)) (m ((c.tc : Thread nD τ).loc main_arg5)) q
      (ord (negEntry (m ((c.tc : Thread nD τ).loc main_arg1)) (m ((c.tc : Thread nD τ).loc main_arg4)) (m ((c.tc : Thread nD τ).loc main_arg2)) (m ((c.tc : Thread nD τ).loc main_arg5)) q) ⟨2, by norm_num⟩))
      < Ideal.ofBits .f32 0x501502F9#32
  fourth : ∀ q, negEntry (m ((c.tc : Thread nD τ).loc main_arg1)) (m ((c.tc : Thread nD τ).loc main_arg4)) (m ((c.tc : Thread nD τ).loc main_arg2)) (m ((c.tc : Thread nD τ).loc main_arg5)) q
      (ord (negEntry (m ((c.tc : Thread nD τ).loc main_arg1)) (m ((c.tc : Thread nD τ).loc main_arg4)) (m ((c.tc : Thread nD τ).loc main_arg2)) (m ((c.tc : Thread nD τ).loc main_arg5)) q) ⟨3, by norm_num⟩)
      < negEntry (m ((c.tc : Thread nD τ).loc main_arg1)) (m ((c.tc : Thread nD τ).loc main_arg4)) (m ((c.tc : Thread nD τ).loc main_arg2)) (m ((c.tc : Thread nD τ).loc main_arg5)) q
      (ord (negEntry (m ((c.tc : Thread nD τ).loc main_arg1)) (m ((c.tc : Thread nD τ).loc main_arg4)) (m ((c.tc : Thread nD τ).loc main_arg2)) (m ((c.tc : Thread nD τ).loc main_arg5)) q) ⟨2, by norm_num⟩)

/-- The body's block at a grid point is the answer's rows for the block's queries. -/
theorem block_at (h : Clear m c) (t : Fin grid0.N) (q : Fin 512) (o : Fin 256) :
    outsAt0 m trivial (hyps m) c t (ix2 q o) = answer m c (ix2 (query (blk (grid0.coords t)) q) o) := by
  obtain ⟨a, ha⟩ := start_mul m c (blk (grid0.coords t))
  have hc : c = 0 := Subsingleton.elim _ _
  have hu : kernelRun0_A.sl.r (F := Ideal) c (grid0.coords t) (tbl m 0) = BitVec.ofNat 32 (8 * a.val) := by
    rw [← ha, hc]; exact read0 m (grid0.coords t) _
  have hv : kernelRun0_A.sl.r_1 (F := Ideal) c (grid0.coords t) (tbl m 1)
      = BitVec.ofNat 32 (⟨tiles m c (blk (grid0.coords t)), Nat.lt_succ_of_le (tiles_le m c _)⟩ : Fin 9).val := by
    rw [hc]; exact read1 m (grid0.coords t) _
  generalize hp : blk (grid0.coords t) = p at *
  have hX3 : iblk m trivial c 3 t = m ((c.tc : Thread nD τ).loc main_arg1) := funext fun j => iblk3 m c t j
  have hX5 : iblk m trivial c 5 t = m ((c.tc : Thread nD τ).loc main_arg0) := funext fun j => iblk5 m c t j
  have hX6 : iblk m trivial c 6 t = m ((c.tc : Thread nD τ).loc main_arg6) := funext fun j => iblk6 m c t j
  have hX8 : iblk m trivial c 8 t = m ((c.tc : Thread nD τ).loc main_arg8) := funext fun j => iblk8 m c t j
  unfold outsAt0
  refine (body_at c (grid0.coords t) _ _ _ _ _ _ _ _ _ _ _ _ _ _ _ _ _ _ _ _ _ _ (iblk m trivial c 0 t) (iblk m trivial c 1 t) (iblk m trivial c 2 t)
    (iblk m trivial c 3 t) (iblk m trivial c 4 t) (iblk m trivial c 5 t) (iblk m trivial c 6 t) (iblk m trivial c 7 t) (iblk m trivial c 8 t) (iblk m trivial c 9 t)
    (tbl m 0) (tbl m 1) (Hyps.c0 (hyps m) c t) a ⟨tiles m c p, _⟩ hu hv (m ((c.tc : Thread nD τ).loc main_arg7)) (fun k => iblk7 m c t k)
    (m ((c.tc : Thread nD τ).loc main_arg9)) (fun k => iblk9 m c t k) q o
    (fun s => -(negEntry (m ((c.tc : Thread nD τ).loc main_arg1)) (m ((c.tc : Thread nD τ).loc main_arg4)) (m ((c.tc : Thread nD τ).loc main_arg2)) (m ((c.tc : Thread nD τ).loc main_arg5)) (query p q) s))
    ?_ _ (h.third (query p q)) (nearest (m ((c.tc : Thread nD τ).loc main_arg1)) (m ((c.tc : Thread nD τ).loc main_arg4)) (m ((c.tc : Thread nD τ).loc main_arg2)) (m ((c.tc : Thread nD τ).loc main_arg5)) (query p q))
    (three_card _ _) (mem_nearest _ _ _ _ (query p q) (h.fourth (query p q))) ?_).trans ?_
  · intro s
    rw [iblk2 m c t q, iblk0 m c t 0 q, iblk0 m c t 1 q, iblk0 m c t 2 q, hX3, hp]
    exact dist_eq _ _ _ _ _ (fun s => iblk4 m c t s) (query p q) s
  · intro s hs
    have h1 := (mem_nearest _ _ _ _ (query p q) (h.fourth (query p q)) s).mp hs
    have h2 := covered m c h.sources h.queries p q s (same_batch _ _ _ _ (query p q) s (h1.trans_lt (h.third (query p q))))
    rw [ha] at h2
    exact h2
  · rw [hX5, hX6, hX8]
    unfold answer
    refine congrArg (fun y => layers _ y _ _ _ _ o) (funext fun k => ?_)
    exact (iblk1 m c t q k).trans (by rw [hp]; rfl)

end

end Cert.KernelIdeal.Proof
-- ==== Proof.Result.lean ====
module

public import proofs.«01_k».proof.Proof.Value
public import Idealize.ShloMosaic.Lib.Pipeline.ValueKit.Basic

@[expose] public section

set_option maxRecDepth 16384

noncomputable section

/-! # The whole result

The sixteen blocks tile the result, so the run ends with it at the answer. -/

namespace Cert.KernelIdeal.Proof

open Idealize.ShloMosaic Idealize.ShloMosaic.TcCoe
open Idealize.SL.Sem
open Cert.KernelIdeal.Gen
open Idealize.ShloMosaic.Pipeline (Dat)

variable (m : (ℓ : Loc nD τ sig) → Buf (Elt Ideal) ℓ) (c : Dev nD)

section
variable (hO : Ok m) (hH : Hyps m hO)

/-- What the body leaves at grid point `t` is the answer at each element of the block. -/
theorem outsAt_eq (h : Clear m c) (t : Fin grid0.N) (x : S512x256.Idx) :
    outsAt0 m hO hH c t x = answer m c (ix2 (query (blk (grid0.coords t)) (x 0)) (x 1)) := by
  have e : x = ix2 (x 0) (x 1) := by
    funext a
    match a with
    | ⟨0, _⟩ => rfl
    | ⟨1, _⟩ => rfl
  exact (congrArg (outsAt0 m hO hH c t) e).trans (block_at m c h t (x 0) (x 1))

/-- What grid point `t` writes back is the answer's rows for its block. -/
theorem flushed_eq (h : Clear m c) (t : Fin (cfgM m hO).N) :
    (dats m hO hH 0 c).flushed 10 t = (((cfgM m hO).win 10).blk t).view.read (Elt Ideal) (answer m c) := by
  show ((cfgM m hO).win 10).cut (grid0.coords t) ((dats m hO hH 0 c).after 10 t) = _
  rw [after0_10]
  funext j
  refine (outsAt_eq m c hO hH h t (((cfgM m hO).win 10).xinj (grid0.coords t) j)).trans ?_
  refine congrArg (answer m c) ?_
  funext a; apply Fin.ext
  match a with
  | ⟨0, hx⟩ => show 512 * (blk (grid0.coords t)).val + (j ⟨0, hx⟩).val = (BitVec.ofNat 32 ((grid0.coords t) 0).val).toNat * 512 + 1 * (j ⟨0, hx⟩).val; rw [grid_toNat]; omega
  | ⟨1, hx⟩ => show (j ⟨1, hx⟩).val = 0 * 256 + 1 * (j ⟨1, hx⟩).val; omega

theorem blk_val : ∀ t : Fin grid0.N, (blk (grid0.coords t)).val = t.val := by decide +kernel

/-- The sixteen blocks cover the result. -/
theorem cover (i : S8192x256.Idx) :
    ∃ t : Fin (cfgM m hO).N, ((cfgM m hO).win 10).flush t = true ∧ i ∈ (((cfgM m hO).win 10).blk t).view.set := by
  have h0 : (i 0).val < 8192 := (i 0).isLt
  have h1 : (i 1).val < 256 := (i 1).isLt
  have ht : (i 0).val / 512 < grid0.N := by rw [N_0]; omega
  refine ⟨⟨(i 0).val / 512, ht⟩, flush0_10 _ _, ?_⟩
  show i ∈ ((View.whole main_v32).slice (((cfgM m hO).win 10).rect ⟨(i 0).val / 512, ht⟩)).set
  erw [View.set_slice_whole]
  refine (Pipeline.Window.mem_rect_iff ((cfgM m hO).win 10) ⟨(i 0).val / 512, ht⟩ i (by rfl)).mpr fun a => ?_
  have hb := blk_val ⟨(i 0).val / 512, ht⟩
  match a with
  | ⟨0, _⟩ =>
    show (BitVec.ofNat 32 ((grid0.coords ⟨(i 0).val / 512, ht⟩) 0).val).toNat * 512 ≤ (i 0).val
      ∧ (i 0).val < (BitVec.ofNat 32 ((grid0.coords ⟨(i 0).val / 512, ht⟩) 0).val).toNat * 512 + 512
    rw [grid_toNat, hb]
    dsimp only
    omega
  | ⟨1, _⟩ =>
    show 0 * 256 ≤ (i 1).val ∧ (i 1).val < 0 * 256 + 256
    omega

/-- So the result ends holding the answer. -/
theorem final_out (h : Clear m c) : (dats m hO hH 0 c).arrAt 10 (cfgM m hO).N = answer m c :=
  (dats m hO hH 0 c).arrAt_eq_of_cover 10 (answer m c) (fun t _ => flushed_eq m c hO hH h t) (cover m hO)

end

/-- The run: the result at the answer, the arguments as they were. -/
theorem run (ρ : Dev nD → PrngReg) (h : ∀ c, Clear m c) :
    θ_run defs (onTc (τ := τ) (main (F := Ideal))) ⟨m, fun _ => 0, ρ⟩ (fun r => (∀ c : Dev nD, r.2.mem ((c.tc : Thread nD τ).loc main_v32) = answer m c)
      ∧ ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  θ_run_and
    ((θ_run defs _ _).mono (fun _ hr c => ((hr c).1 10).trans (final_out m c trivial (hyps m) (h c))) (run_main m ρ trivial (hyps m)))
    (unchanged m ρ trivial (hyps m))

end Cert.KernelIdeal.Proof
-- ==== Proof.Claims.lean ====
module

public import proofs.«01_k».proof.Proof.Frames
public import proofs.«01_k».proof.Proof.Result

@[expose] public section

set_option maxRecDepth 16384

noncomputable section

/-! # The claim on values

Under the precondition the kernel and the reference, both with exact arithmetic, end with the same three results. -/

namespace Cert.Proof

open Idealize.ShloMosaic Idealize.SL.Sem

/-- The shapes the precondition is written over fit. -/
theorem pre_shapes : Cert.Pre_three_clear_neighbours.Facts where
  bcast_S8192x3_S8192x1x3_0_2 := by decide
  bcast_S4096x3_S1x4096x3_1_2 := by decide
  bcast_S8192x1x3_S8192x4096x3_0_1_2 := by decide
  bcast_S1x4096x3_S8192x4096x3_0_1_2 := by decide
  reducesTo_S8192x4096x3_S8192x4096_d2 := by decide
  h_S_ := by decide
  bcast_S8192_S8192x1_0 := by decide
  bcast_S4096_S1x4096_1 := by decide
  bcast_S8192x1_S8192x4096_0_1 := by decide
  bcast_S1x4096_S8192x4096_0_1 := by decide
  bcast_S_S8192x4096 := by decide
  sliceFits_S8192x4096_S8192x4 := by decide
  slices_S8192x4_S8192x1_0_2 := by decide
  shapeCasts_S8192x1_S8192 := by decide
  slices_S8192x4_S8192x1_0_3 := by decide
  slices_S4096_S4095_0 := by decide
  slices_S4096_S4095_1 := by decide
  reducesTo_S4095_S_d0 := by decide
  slices_S8192_S8191_0 := by decide
  slices_S8192_S8191_1 := by decide
  reducesTo_S8191_S_d0 := by decide
  bcast_S_S8192 := by decide
  reducesTo_S8192_S_d0 := by decide

/-- The precondition, spelled out of the arguments. -/
theorem clear_of_pre (m : (ℓ : Loc Cert.KernelIdeal.nD Cert.KernelIdeal.τ Cert.KernelIdeal.sig) → Buf (Elt Ideal) ℓ)
    (h : Cert.Pre_KernelIdeal_three_clear_neighbours (hPre_three_clear_neighbours := pre_shapes) m)
    (c : Dev Cert.KernelIdeal.nD) : Cert.KernelIdeal.Proof.Clear m c :=
  have p := @Cert.Promise.promise pre_shapes _ _ _ _ _ _ _ _ _ _ (h c)
  ⟨p.1, p.2.1, fun q => (p.2.2 q).1, fun q => (p.2.2 q).2⟩

/-- The reference's result is the same function of its arguments as the kernel's. -/
theorem answer_eq (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (c : Dev Cert.KernelIdeal.nD)
    (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (h3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
    (h4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4))
    (h5 : m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5))
    (h6 : m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6))
    (h7 : m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7))
    (h8 : m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8))
    (h9 : m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9))
    : Cert.ReferenceIdeal.Value.res_main_v37 m' c = Cert.KernelIdeal.Proof.answer m c := by
  have key : ∀ (q : Fin 8192) (o : Fin 256),
      Cert.ReferenceIdeal.Value.res_main_v37 m' c (ix2 q o) = Cert.KernelIdeal.Proof.answer m c (ix2 q o) := fun q o => by
    refine (Cert.ReferenceIdeal.Proof.answer_at m' c q o).trans ?_
    rw [h0, h1, h2, h3, h4, h5, h6, h7, h8, h9]
    rfl
  funext j
  have e : j = ix2 (n0 := 8192) (n1 := 256) (j 0) (j 1) := by
    funext a
    match a with
    | ⟨0, _⟩ => rfl
    | ⟨1, _⟩ => rfl
  exact (congrArg (Cert.ReferenceIdeal.Value.res_main_v37 m' c) e).trans ((key (j 0) (j 1)).trans (congrArg (Cert.KernelIdeal.Proof.answer m c) e.symm))

/-- The kernel and the reference end with the same three results, and leave their arguments alone. -/
theorem values : Cert.algebraic_KernelIdeal_ReferenceIdeal_pre_three_clear_neighbours (hKernelIdeal := Cert.KernelIdeal.Gen.facts)
    (hReferenceIdeal := Cert.ReferenceIdeal.Gen.facts) (hPre_three_clear_neighbours := pre_shapes) := by
  intro m ρ m' ρ' hp hagree
  refine ⟨fun c => Cert.KernelIdeal.Proof.answer m c, fun c => m ((c.tc : Thread Cert.KernelIdeal.nD Cert.KernelIdeal.τ).loc Cert.KernelIdeal.main_arg4), fun c => m ((c.tc : Thread Cert.KernelIdeal.nD Cert.KernelIdeal.τ).loc Cert.KernelIdeal.main_arg5), ?_, ?_⟩
  · exact (θ_run Cert.KernelIdeal.defs _ _).mono (fun _ h c => ⟨h.1 c, (h.2 c).2.2.2.2.1, (h.2 c).2.2.2.2.2.1, h.2 c⟩)
      (Cert.KernelIdeal.Proof.run m ρ (clear_of_pre m hp))
  · refine (θ_run Cert.ReferenceIdeal.defs _ _).mono (fun _ h c => ?_) (Cert.ReferenceIdeal.Value.run (F := Ideal) m' ρ')
    obtain ⟨a0, a1, a2, a3, a4, a5, a6, a7, a8, a9⟩ := hagree c
    obtain ⟨r0, r1, r2, rest⟩ := h c
    exact ⟨r0.trans (answer_eq m m' c a0 a1 a2 a3 a4 a5 a6 a7 a8 a9), r1.trans a4, r2.trans a5, rest⟩

end Cert.Proof
-- ==== Proof.lean ====
/- The proof of the certificate's claims: the three programs run and leave their arguments alone (Proof/Frames.lean), and under the
   precondition the kernel and the reference end with the same results (Proof/Claims.lean). -/
module

public import proofs.«01_k».proof.Defs
public import proofs.«01_k».proof.Proof.Claims

@[expose] public section

noncomputable section

namespace Cert.Proof

open Idealize.ShloMosaic Idealize.SL.Sem

/-- The certificate's claims. -/
theorem claim : Cert.Claim :=
  ⟨Cert.Kernel.Gen.facts, Cert.KernelIdeal.Gen.facts, Cert.ReferenceIdeal.Gen.facts, pre_shapes,
    frame_kernel, frame_ideal, fun m ρ _ => frame_ideal m ρ trivial, frame_reference, fun m ρ _ => frame_reference m ρ trivial, trivial, values⟩

end Cert.Proof

end
